-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v1_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v1_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v2_1) = v1 c
          ∧ r.2.mem ((c.tc : Thread Cert.ReferenceIdeal.nD Cert.ReferenceIdeal.τ).loc Cert.ReferenceIdeal.main_v2_2) = v2 c
          ∧ r.2.mem ((c.tc : Thread Cert.ReferenceIdeal.nD Cert.ReferenceIdeal.τ).loc Cert.ReferenceIdeal.main_v2_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x2560 : Shape := ⟨3, ![2, 128, 2560]⟩
abbrev S2x128 : Shape := ⟨2, ![2, 128]⟩
abbrev S2560x10240 : Shape := ⟨2, ![2560, 10240]⟩
abbrev S1280x10240 : Shape := ⟨2, ![1280, 10240]⟩
abbrev S20x10240 : Shape := ⟨2, ![20, 10240]⟩
abbrev S2560x48 : Shape := ⟨2, ![2560, 48]⟩
abbrev S48x10240 : Shape := ⟨2, ![48, 10240]⟩
abbrev S256x2560 : Shape := ⟨2, ![256, 2560]⟩
abbrev S256x48 : Shape := ⟨2, ![256, 48]⟩
abbrev S4x2560x512 : Shape := ⟨3, ![4, 2560, 512]⟩
abbrev S4x1280x512 : Shape := ⟨3, ![4, 1280, 512]⟩
abbrev S2560x512 : Shape := ⟨2, ![2560, 512]⟩
abbrev S256x128 : Shape := ⟨2, ![256, 128]⟩
abbrev S48x256 : Shape := ⟨2, ![48, 256]⟩
abbrev S2x48x512 : Shape := ⟨3, ![2, 48, 512]⟩
abbrev S5 : Shape := ⟨1, ![5]⟩
abbrev S4 : Shape := ⟨1, ![4]⟩
abbrev S2 : Shape := ⟨1, ![2]⟩
abbrev S3 : Shape := ⟨1, ![3]⟩
abbrev S1 : Shape := ⟨1, ![1]⟩
abbrev S_ : Shape := ⟨0, ![]⟩
abbrev S1x2560x512 : Shape := ⟨3, ![1, 2560, 512]⟩
abbrev S1x1280x512 : Shape := ⟨3, ![1, 1280, 512]⟩
abbrev S1280x512 : Shape := ⟨2, ![1280, 512]⟩
abbrev S1x128 : Shape := ⟨2, ![1, 128]⟩
abbrev S128x128 : Shape := ⟨2, ![128, 128]⟩
abbrev S1x128x512 : Shape := ⟨3, ![1, 128, 512]⟩
abbrev S128x512 : Shape := ⟨2, ![128, 512]⟩
abbrev S32x512 : Shape := ⟨2, ![32, 512]⟩
abbrev S1x512 : Shape := ⟨2, ![1, 512]⟩
abbrev S256x512 : Shape := ⟨2, ![256, 512]⟩
abbrev S48x512 : Shape := ⟨2, ![48, 512]⟩
abbrev S1x48x512 : Shape := ⟨3, ![1, 48, 512]⟩
abbrev S1x256 : Shape := ⟨2, ![1, 256]⟩
abbrev S48x2560 : Shape := ⟨2, ![48, 2560]⟩
abbrev S128 : Shape := ⟨1, ![128]⟩

abbrev nBuf : Space → Nat
  | .hbm => 12
  | .vmem => 18
  | .smem => 0
  | _ => 0

abbrev bufTy : (tb : Table) → Fin (tcTables nBuf tb) → BufTy
  | .hbm, ⟨0, _⟩ => ⟨S2x128x2560, .fp8e4m3⟩
  | .hbm, ⟨1, _⟩ => ⟨S2x128, .f32⟩
  | .hbm, ⟨2, _⟩ => ⟨S2560x10240, .bf16⟩
  | .hbm, ⟨3, _⟩ => ⟨S1280x10240, .i8⟩
  | .hbm, ⟨4, _⟩ => ⟨S20x10240, .bf16⟩
  | .hbm, ⟨5, _⟩ => ⟨S2560x48, .bf16⟩
  | .hbm, ⟨6, _⟩ => ⟨S48x10240, .bf16⟩
  | .hbm, ⟨7, _⟩ => ⟨S256x2560, .fp8e4m3⟩
  | .hbm, ⟨8, _⟩ => ⟨S2x128, .f32⟩
  | .hbm, ⟨9, _⟩ => ⟨S256x48, .f32⟩
  | .hbm, ⟨10, _⟩ => ⟨S2560x48, .f32⟩
  | .hbm, ⟨11, _⟩ => ⟨S48x10240, .f32⟩
  | .local _ .vmem, ⟨0, _⟩ => ⟨S256x2560, .fp8e4m3⟩
  | .local _ .vmem, ⟨1, _⟩ => ⟨S2x128, .f32⟩
  | .local _ .vmem, ⟨2, _⟩ => ⟨S2560x48, .bf16⟩
  | .local _ .vmem, ⟨3, _⟩ => ⟨S48x10240, .bf16⟩
  | .local _ .vmem, ⟨4, _⟩ => ⟨S20x10240, .bf16⟩
  | .local _ .vmem, ⟨5, _⟩ => ⟨S4x2560x512, .bf16⟩
  | .local _ .vmem, ⟨6, _⟩ => ⟨S4x1280x512, .i8⟩
  | .local _ .vmem, ⟨7, _⟩ => ⟨S256x2560, .bf16⟩
  | .local _ .vmem, ⟨8, _⟩ => ⟨S2560x512, .bf16⟩
  | .local _ .vmem, ⟨9, _⟩ => ⟨S256x128, .f32⟩
  | .local _ .vmem, ⟨10, _⟩ => ⟨S256x48, .bf16⟩
  | .local _ .vmem, ⟨11, _⟩ => ⟨S48x256, .bf16⟩
  | .local _ .vmem, ⟨12, _⟩ => ⟨S256x128, .f32⟩
  | .local _ .vmem, ⟨13, _⟩ => ⟨S48x256, .f32⟩
  | .local _ .vmem, ⟨14, _⟩ => ⟨S2x128, .f32⟩
  | .local _ .vmem, ⟨15, _⟩ => ⟨S256x48, .f32⟩
  | .local _ .vmem, ⟨16, _⟩ => ⟨S2560x48, .f32⟩
  | .local _ .vmem, ⟨17, _⟩ => ⟨S2x48x512, .f32⟩
  | _, _ => ⟨S2x128x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev main_v1_2 : Ref sig .tc := ⟨.hbm, 10, rfl⟩
abbrev main_v1_3 : Ref sig .tc := ⟨.hbm, 11, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev cc0_scratch3 : Ref sig .tc := ⟨.vmem, 3, rfl⟩
abbrev cc0_scratch4 : Ref sig .tc := ⟨.vmem, 4, rfl⟩
abbrev cc0_scratch5 : Ref sig .tc := ⟨.vmem, 5, rfl⟩
abbrev cc0_scratch6 : Ref sig .tc := ⟨.vmem, 6, rfl⟩
abbrev cc0_scratch7 : Ref sig .tc := ⟨.vmem, 7, rfl⟩
abbrev cc0_scratch8 : Ref sig .tc := ⟨.vmem, 8, rfl⟩
abbrev cc0_scratch9 : Ref sig .tc := ⟨.vmem, 9, rfl⟩
abbrev cc0_scratch10 : Ref sig .tc := ⟨.vmem, 10, rfl⟩
abbrev cc0_scratch11 : Ref sig .tc := ⟨.vmem, 11, rfl⟩
abbrev cc0_scratch12 : Ref sig .tc := ⟨.vmem, 12, rfl⟩
abbrev cc0_scratch13 : Ref sig .tc := ⟨.vmem, 13, rfl⟩
abbrev cc0_scratch14 : Ref sig .tc := ⟨.vmem, 14, rfl⟩
abbrev cc0_scratch15 : Ref sig .tc := ⟨.vmem, 15, rfl⟩
abbrev cc0_scratch16 : Ref sig .tc := ⟨.vmem, 16, rfl⟩
abbrev cc0_scratch17 : Ref sig .tc := ⟨.vmem, 17, rfl⟩

abbrev nD : Nat := 1
abbrev τ : Topo := Topo.v7x

variable {F : FTy → Type} [FloatOps F]

abbrev grid0 : Pipeline.Grid := .none

def k0_mult1 : BitVec 32 :=
  let c0_i32_0 : BitVec 32 := 0#32
  c0_i32_0
def k0_mult2 : BitVec 32 :=
  let c512_i32 : BitVec 32 := 512#32
  c512_i32
def k0_mult3 : BitVec 32 :=
  let c1024_i32 : BitVec 32 := 1024#32
  c1024_i32
@[reducible] def k0_t1_loop : Scf.Loop 32 :=
  let c0_i32_61 : BitVec 32 := 0#32
  let c20_i32 : BitVec 32 := 20#32
  let v94 : BitVec 32 := Scalar.addi c0_i32_61 c20_i32
  let c1_i32_62 : BitVec 32 := 1#32
  ⟨c0_i32_61, v94, c1_i32_62⟩
def k0_cond1 (k0_t1 : Fin k0_t1_loop.trips) : BitVec 1 :=
  let c0_i32_61 : BitVec 32 := 0#32
  let c1_i32_62 : BitVec 32 := 1#32
  let arg34 : BitVec 32 := Scf.iv c0_i32_61 c1_i32_62 k0_t1
  let c3_i32_105 : BitVec 32 := 3#32
  let v153 : BitVec 32 := Scalar.addi arg34 c3_i32_105
  let c20_i32_106 : BitVec 32 := 20#32
  let v154 : BitVec 1 := Scalar.cmpi .slt v153 c20_i32_106
  let v155 : BitVec 32 := Scalar.extui v154
  let c0_i32_107 : BitVec 32 := 0#32
  let v156 : BitVec 1 := Scalar.cmpi .ne v155 c0_i32_107
  v156

def k0_mult4 (k0_t1 : Fin k0_t1_loop.trips) : BitVec 32 :=
  let c0_i32_61 : BitVec 32 := 0#32
  let c1_i32_62 : BitVec 32 := 1#32
  let arg34 : BitVec 32 := Scf.iv c0_i32_61 c1_i32_62 k0_t1
  let c3_i32_105 : BitVec 32 := 3#32
  let v153 : BitVec 32 := Scalar.addi arg34 c3_i32_105
  let c512_i32_289 : BitVec 32 := 512#32
  let v641 : BitVec 32 := Scalar.muli v153 c512_i32_289
  v641
def k0_off1 (k0_t1 : Fin k0_t1_loop.trips) : Fin 1 → Nat :=
  let c0_i32_61 : BitVec 32 := 0#32
  let c1_i32_62 : BitVec 32 := 1#32
  let arg34 : BitVec 32 := Scf.iv c0_i32_61 c1_i32_62 k0_t1
  let c3_i32_105 : BitVec 32 := 3#32
  let v153 : BitVec 32 := Scalar.addi arg34 c3_i32_105
  let c4_i32_288 : BitVec 32 := 4#32
  let v640 : BitVec 32 := Scalar.remsi v153 c4_i32_288
  ![v640.toNat]
def k0_off2 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c3_i32_105 : BitVec 32 := 3#32
  let v153 : BitVec 32 := Scalar.addi arg34 c3_i32_105
  let c4_i32_288 : BitVec 32 := 4#32
  let v640 : BitVec 32 := Scalar.remsi v153 c4_i32_288
  let c0_i32_290 : BitVec 32 := 0#32
  let c0_i32_291 : BitVec 32 := 0#32
  ![v640.toNat, 0, 0]
def k0_off3 (k0_t1 : Fin k0_t1_loop.trips) : Fin 2 → Nat :=
  let c0_i32_292 : BitVec 32 := 0#32
  let c0_i32_61 : BitVec 32 := 0#32
  let c1_i32_62 : BitVec 32 := 1#32
  let arg34 : BitVec 32 := Scf.iv c0_i32_61 c1_i32_62 k0_t1
  let c3_i32_105 : BitVec 32 := 3#32
  let v153 : BitVec 32 := Scalar.addi arg34 c3_i32_105
  let c512_i32_289 : BitVec 32 := 512#32
  let v641 : BitVec 32 := Scalar.muli v153 c512_i32_289
  let v642 : BitVec 32 := v641
  ![0, v642.toNat]
def k0_off4 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c3_i32_105 : BitVec 32 := 3#32
  let v153 : BitVec 32 := Scalar.addi arg34 c3_i32_105
  let c4_i32_288 : BitVec 32 := 4#32
  let v640 : BitVec 32 := Scalar.remsi v153 c4_i32_288
  let c0_i32_293 : BitVec 32 := 0#32
  let c0_i32_294 : BitVec 32 := 0#32
  ![v640.toNat, 0, 0]
def k0_off5 (k0_t1 : Fin k0_t1_loop.trips) : Fin 2 → Nat :=
  let c0_i32_295 : BitVec 32 := 0#32
  let c0_i32_61 : BitVec 32 := 0#32
  let c1_i32_62 : BitVec 32 := 1#32
  let arg34 : BitVec 32 := Scf.iv c0_i32_61 c1_i32_62 k0_t1
  let c3_i32_105 : BitVec 32 := 3#32
  let v153 : BitVec 32 := Scalar.addi arg34 c3_i32_105
  let c512_i32_289 : BitVec 32 := 512#32
  let v641 : BitVec 32 := Scalar.muli v153 c512_i32_289
  let v642 : BitVec 32 := v641
  ![0, v642.toNat]
def k0_mult5 (k0_t1 : Fin k0_t1_loop.trips) : BitVec 32 :=
  let c0_i32_61 : BitVec 32 := 0#32
  let c1_i32_62 : BitVec 32 := 1#32
  let arg34 : BitVec 32 := Scf.iv c0_i32_61 c1_i32_62 k0_t1
  let c512_i32_108 : BitVec 32 := 512#32
  let v157 : BitVec 32 := Scalar.muli arg34 c512_i32_108
  v157
def k0_off6 (k0_t1 : Fin k0_t1_loop.trips) : Fin 1 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  ![v152.toNat]
def k0_off7 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let c0_i32_109 : BitVec 32 := 0#32
  let c0_i32_110 : BitVec 32 := 0#32
  ![v152.toNat, 0, 0]
def k0_off8 (k0_t1 : Fin k0_t1_loop.trips) : Fin 2 → Nat :=
  let c0_i32_111 : BitVec 32 := 0#32
  let c0_i32_61 : BitVec 32 := 0#32
  let c1_i32_62 : BitVec 32 := 1#32
  let arg34 : BitVec 32 := Scf.iv c0_i32_61 c1_i32_62 k0_t1
  let c512_i32_108 : BitVec 32 := 512#32
  let v157 : BitVec 32 := Scalar.muli arg34 c512_i32_108
  let v158 : BitVec 32 := v157
  ![0, v158.toNat]
def k0_off9 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let c0_i32_112 : BitVec 32 := 0#32
  let c0_i32_113 : BitVec 32 := 0#32
  ![v152.toNat, 0, 0]
def k0_off10 (k0_t1 : Fin k0_t1_loop.trips) : Fin 2 → Nat :=
  let c0_i32_114 : BitVec 32 := 0#32
  let c0_i32_61 : BitVec 32 := 0#32
  let c1_i32_62 : BitVec 32 := 1#32
  let arg34 : BitVec 32 := Scf.iv c0_i32_61 c1_i32_62 k0_t1
  let c512_i32_108 : BitVec 32 := 512#32
  let v157 : BitVec 32 := Scalar.muli arg34 c512_i32_108
  let v158 : BitVec 32 := v157
  ![0, v158.toNat]
def k0_mult6 (k0_t1 : Fin k0_t1_loop.trips) : BitVec 32 :=
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  v169
def k0_off11 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v171 : Index := Scalar.indexCast v152
  let c0_116 : Index := 0#32
  let c0_117 : Index := 0#32
  ![v171.toNat, 0, 0]
def k0_off12 (k0_t1 : Fin k0_t1_loop.trips) : Fin 2 → Nat :=
  let c0_121 : Index := 0#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v186 : Index := Scalar.indexCast v170
  ![0, v186.toNat]
def k0_off13 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v190 : Index := Scalar.indexCast v152
  let c0_122 : Index := 0#32
  let c0_123 : Index := 0#32
  ![v190.toNat, 0, 0]
def k0_off14 (k0_t1 : Fin k0_t1_loop.trips) : Fin 2 → Nat :=
  let c10 : Index := 10#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v200 : Index := Scalar.indexCast v170
  ![10, v200.toNat]
def k0_off15 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v204 : Index := Scalar.indexCast v152
  let c1280 : Index := 1280#32
  let c0_127 : Index := 0#32
  ![v204.toNat, 1280, 0]
def k0_off16 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v211 : Index := Scalar.indexCast v152
  let c128_130 : Index := 128#32
  let c0_131 : Index := 0#32
  ![v211.toNat, 128, 0]
def k0_off17 (k0_t1 : Fin k0_t1_loop.trips) : Fin 2 → Nat :=
  let c1_136 : Index := 1#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v226 : Index := Scalar.indexCast v170
  ![1, v226.toNat]
def k0_off18 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v230 : Index := Scalar.indexCast v152
  let c128_137 : Index := 128#32
  let c0_138 : Index := 0#32
  ![v230.toNat, 128, 0]
def k0_off19 (k0_t1 : Fin k0_t1_loop.trips) : Fin 2 → Nat :=
  let c11 : Index := 11#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v240 : Index := Scalar.indexCast v170
  ![11, v240.toNat]
def k0_off20 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v244 : Index := Scalar.indexCast v152
  let c1408 : Index := 1408#32
  let c0_142 : Index := 0#32
  ![v244.toNat, 1408, 0]
def k0_off21 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v251 : Index := Scalar.indexCast v152
  let c256 : Index := 256#32
  let c0_145 : Index := 0#32
  ![v251.toNat, 256, 0]
def k0_off22 (k0_t1 : Fin k0_t1_loop.trips) : Fin 2 → Nat :=
  let c2 : Index := 2#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v266 : Index := Scalar.indexCast v170
  ![2, v266.toNat]
def k0_off23 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v270 : Index := Scalar.indexCast v152
  let c256_150 : Index := 256#32
  let c0_151 : Index := 0#32
  ![v270.toNat, 256, 0]
def k0_off24 (k0_t1 : Fin k0_t1_loop.trips) : Fin 2 → Nat :=
  let c12 : Index := 12#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v280 : Index := Scalar.indexCast v170
  ![12, v280.toNat]
def k0_off25 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v284 : Index := Scalar.indexCast v152
  let c1536 : Index := 1536#32
  let c0_155 : Index := 0#32
  ![v284.toNat, 1536, 0]
def k0_off26 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v291 : Index := Scalar.indexCast v152
  let c384 : Index := 384#32
  let c0_158 : Index := 0#32
  ![v291.toNat, 384, 0]
def k0_off27 (k0_t1 : Fin k0_t1_loop.trips) : Fin 2 → Nat :=
  let c3 : Index := 3#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v306 : Index := Scalar.indexCast v170
  ![3, v306.toNat]
def k0_off28 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v310 : Index := Scalar.indexCast v152
  let c384_163 : Index := 384#32
  let c0_164 : Index := 0#32
  ![v310.toNat, 384, 0]
def k0_off29 (k0_t1 : Fin k0_t1_loop.trips) : Fin 2 → Nat :=
  let c13 : Index := 13#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v320 : Index := Scalar.indexCast v170
  ![13, v320.toNat]
def k0_off30 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v324 : Index := Scalar.indexCast v152
  let c1664 : Index := 1664#32
  let c0_168 : Index := 0#32
  ![v324.toNat, 1664, 0]
def k0_off31 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v331 : Index := Scalar.indexCast v152
  let c512 : Index := 512#32
  let c0_171 : Index := 0#32
  ![v331.toNat, 512, 0]
def k0_off32 (k0_t1 : Fin k0_t1_loop.trips) : Fin 2 → Nat :=
  let c4 : Index := 4#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v346 : Index := Scalar.indexCast v170
  ![4, v346.toNat]
def k0_off33 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v350 : Index := Scalar.indexCast v152
  let c512_176 : Index := 512#32
  let c0_177 : Index := 0#32
  ![v350.toNat, 512, 0]
def k0_off34 (k0_t1 : Fin k0_t1_loop.trips) : Fin 2 → Nat :=
  let c14 : Index := 14#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v360 : Index := Scalar.indexCast v170
  ![14, v360.toNat]
def k0_off35 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v364 : Index := Scalar.indexCast v152
  let c1792 : Index := 1792#32
  let c0_181 : Index := 0#32
  ![v364.toNat, 1792, 0]
def k0_off36 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v371 : Index := Scalar.indexCast v152
  let c640 : Index := 640#32
  let c0_184 : Index := 0#32
  ![v371.toNat, 640, 0]
def k0_off37 (k0_t1 : Fin k0_t1_loop.trips) : Fin 2 → Nat :=
  let c5 : Index := 5#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v386 : Index := Scalar.indexCast v170
  ![5, v386.toNat]
def k0_off38 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v390 : Index := Scalar.indexCast v152
  let c640_189 : Index := 640#32
  let c0_190 : Index := 0#32
  ![v390.toNat, 640, 0]
def k0_off39 (k0_t1 : Fin k0_t1_loop.trips) : Fin 2 → Nat :=
  let c15 : Index := 15#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v400 : Index := Scalar.indexCast v170
  ![15, v400.toNat]
def k0_off40 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v404 : Index := Scalar.indexCast v152
  let c1920 : Index := 1920#32
  let c0_194 : Index := 0#32
  ![v404.toNat, 1920, 0]
def k0_off41 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v411 : Index := Scalar.indexCast v152
  let c768 : Index := 768#32
  let c0_197 : Index := 0#32
  ![v411.toNat, 768, 0]
def k0_off42 (k0_t1 : Fin k0_t1_loop.trips) : Fin 2 → Nat :=
  let c6 : Index := 6#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v426 : Index := Scalar.indexCast v170
  ![6, v426.toNat]
def k0_off43 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v430 : Index := Scalar.indexCast v152
  let c768_202 : Index := 768#32
  let c0_203 : Index := 0#32
  ![v430.toNat, 768, 0]
def k0_off44 (k0_t1 : Fin k0_t1_loop.trips) : Fin 2 → Nat :=
  let c16 : Index := 16#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v440 : Index := Scalar.indexCast v170
  ![16, v440.toNat]
def k0_off45 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v444 : Index := Scalar.indexCast v152
  let c2048 : Index := 2048#32
  let c0_207 : Index := 0#32
  ![v444.toNat, 2048, 0]
def k0_off46 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v451 : Index := Scalar.indexCast v152
  let c896 : Index := 896#32
  let c0_210 : Index := 0#32
  ![v451.toNat, 896, 0]
def k0_off47 (k0_t1 : Fin k0_t1_loop.trips) : Fin 2 → Nat :=
  let c7 : Index := 7#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v466 : Index := Scalar.indexCast v170
  ![7, v466.toNat]
def k0_off48 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v470 : Index := Scalar.indexCast v152
  let c896_215 : Index := 896#32
  let c0_216 : Index := 0#32
  ![v470.toNat, 896, 0]
def k0_off49 (k0_t1 : Fin k0_t1_loop.trips) : Fin 2 → Nat :=
  let c17 : Index := 17#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v480 : Index := Scalar.indexCast v170
  ![17, v480.toNat]
def k0_off50 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v484 : Index := Scalar.indexCast v152
  let c2176 : Index := 2176#32
  let c0_220 : Index := 0#32
  ![v484.toNat, 2176, 0]
def k0_off51 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v491 : Index := Scalar.indexCast v152
  let c1024 : Index := 1024#32
  let c0_223 : Index := 0#32
  ![v491.toNat, 1024, 0]
def k0_off52 (k0_t1 : Fin k0_t1_loop.trips) : Fin 2 → Nat :=
  let c8 : Index := 8#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v506 : Index := Scalar.indexCast v170
  ![8, v506.toNat]
def k0_off53 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v510 : Index := Scalar.indexCast v152
  let c1024_228 : Index := 1024#32
  let c0_229 : Index := 0#32
  ![v510.toNat, 1024, 0]
def k0_off54 (k0_t1 : Fin k0_t1_loop.trips) : Fin 2 → Nat :=
  let c18 : Index := 18#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v520 : Index := Scalar.indexCast v170
  ![18, v520.toNat]
def k0_off55 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v524 : Index := Scalar.indexCast v152
  let c2304 : Index := 2304#32
  let c0_233 : Index := 0#32
  ![v524.toNat, 2304, 0]
def k0_off56 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v531 : Index := Scalar.indexCast v152
  let c1152 : Index := 1152#32
  let c0_236 : Index := 0#32
  ![v531.toNat, 1152, 0]
def k0_off57 (k0_t1 : Fin k0_t1_loop.trips) : Fin 2 → Nat :=
  let c9 : Index := 9#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v546 : Index := Scalar.indexCast v170
  ![9, v546.toNat]
def k0_off58 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v550 : Index := Scalar.indexCast v152
  let c1152_241 : Index := 1152#32
  let c0_242 : Index := 0#32
  ![v550.toNat, 1152, 0]
def k0_off59 (k0_t1 : Fin k0_t1_loop.trips) : Fin 2 → Nat :=
  let c19 : Index := 19#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v560 : Index := Scalar.indexCast v170
  ![19, v560.toNat]
def k0_off60 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c4_i32_104 : BitVec 32 := 4#32
  let v152 : BitVec 32 := Scalar.remsi arg34 c4_i32_104
  let v564 : Index := Scalar.indexCast v152
  let c2432 : Index := 2432#32
  let c0_246 : Index := 0#32
  ![v564.toNat, 2432, 0]
def k0_off61 (k0_t1 : Fin k0_t1_loop.trips) : Fin 2 → Nat :=
  let c0_254 : Index := 0#32
  let c0_i32_61 : BitVec 32 := 0#32
  let c1_i32_62 : BitVec 32 := 1#32
  let arg34 : BitVec 32 := Scf.iv c0_i32_61 c1_i32_62 k0_t1
  let c512_i32_115 : BitVec 32 := 512#32
  let v169 : BitVec 32 := Scalar.muli arg34 c512_i32_115
  let v170 : BitVec 32 := v169
  let v574 : Index := Scalar.indexCast v170
  ![0, v574.toNat]
def k0_cond2 (k0_t1 : Fin k0_t1_loop.trips) : BitVec 1 :=
  let c0_i32_61 : BitVec 32 := 0#32
  let c1_i32_62 : BitVec 32 := 1#32
  let arg34 : BitVec 32 := Scf.iv c0_i32_61 c1_i32_62 k0_t1
  let c2_i32_276 : BitVec 32 := 2#32
  let v622 : BitVec 1 := Scalar.cmpi .sge arg34 c2_i32_276
  let v623 : BitVec 32 := Scalar.extui v622
  let c0_i32_277 : BitVec 32 := 0#32
  let v624 : BitVec 1 := Scalar.cmpi .ne v623 c0_i32_277
  v624

def k0_mult7 (k0_t1 : Fin k0_t1_loop.trips) : BitVec 32 :=
  let c0_i32_61 : BitVec 32 := 0#32
  let c1_i32_62 : BitVec 32 := 1#32
  let arg34 : BitVec 32 := Scf.iv c0_i32_61 c1_i32_62 k0_t1
  let c2_i32_288 : BitVec 32 := 2#32
  let v640 : BitVec 32 := Scalar.subi arg34 c2_i32_288
  let c512_i32_289 : BitVec 32 := 512#32
  let v641 : BitVec 32 := Scalar.muli v640 c512_i32_289
  v641
def k0_off62 (k0_t1 : Fin k0_t1_loop.trips) : Fin 1 → Nat :=
  let c0_i32_61 : BitVec 32 := 0#32
  let c1_i32_62 : BitVec 32 := 1#32
  let arg34 : BitVec 32 := Scf.iv c0_i32_61 c1_i32_62 k0_t1
  let c2_i32_275 : BitVec 32 := 2#32
  let v621 : BitVec 32 := Scalar.remsi arg34 c2_i32_275
  ![v621.toNat]
def k0_off63 (k0_t1 : Fin k0_t1_loop.trips) : Fin 2 → Nat :=
  let c0_i32_290 : BitVec 32 := 0#32
  let c0_i32_61 : BitVec 32 := 0#32
  let c1_i32_62 : BitVec 32 := 1#32
  let arg34 : BitVec 32 := Scf.iv c0_i32_61 c1_i32_62 k0_t1
  let c2_i32_288 : BitVec 32 := 2#32
  let v640 : BitVec 32 := Scalar.subi arg34 c2_i32_288
  let c512_i32_289 : BitVec 32 := 512#32
  let v641 : BitVec 32 := Scalar.muli v640 c512_i32_289
  let v642 : BitVec 32 := v641
  ![0, v642.toNat]
def k0_off64 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c2_i32_275 : BitVec 32 := 2#32
  let v621 : BitVec 32 := Scalar.remsi arg34 c2_i32_275
  let c0_i32_291 : BitVec 32 := 0#32
  let c0_i32_292 : BitVec 32 := 0#32
  ![v621.toNat, 0, 0]
def k0_off65 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c2_i32_275 : BitVec 32 := 2#32
  let v621 : BitVec 32 := Scalar.remsi arg34 c2_i32_275
  let v629 : Index := Scalar.indexCast v621
  let c0_282 : Index := 0#32
  let c0_283 : Index := 0#32
  ![v629.toNat, 0, 0]
def k0_mult8 (k0_t1 : Fin k0_t1_loop.trips) : BitVec 32 :=
  let c0_i32_61 : BitVec 32 := 0#32
  let c1_i32_62 : BitVec 32 := 1#32
  let arg34 : BitVec 32 := Scf.iv c0_i32_61 c1_i32_62 k0_t1
  let c512_i32_284 : BitVec 32 := 512#32
  let v633 : BitVec 32 := Scalar.muli arg34 c512_i32_284
  v633
def k0_off66 (k0_t1 : Fin k0_t1_loop.trips) : Fin 1 → Nat :=
  let c0_i32_61 : BitVec 32 := 0#32
  let c1_i32_62 : BitVec 32 := 1#32
  let arg34 : BitVec 32 := Scf.iv c0_i32_61 c1_i32_62 k0_t1
  let c2_i32_275 : BitVec 32 := 2#32
  let v621 : BitVec 32 := Scalar.remsi arg34 c2_i32_275
  ![v621.toNat]
def k0_off67 (k0_t1 : Fin k0_t1_loop.trips) : Fin 2 → Nat :=
  let c0_i32_285 : BitVec 32 := 0#32
  let c0_i32_61 : BitVec 32 := 0#32
  let c1_i32_62 : BitVec 32 := 1#32
  let arg34 : BitVec 32 := Scf.iv c0_i32_61 c1_i32_62 k0_t1
  let c512_i32_284 : BitVec 32 := 512#32
  let v633 : BitVec 32 := Scalar.muli arg34 c512_i32_284
  let v634 : BitVec 32 := v633
  ![0, v634.toNat]
def k0_off68 (k0_t1 : Fin k0_t1_loop.trips) : Fin 3 → Nat :=
  let c0_i32_61 : BitVec 32 := 0#32
  let c1_i32_62 : BitVec 32 := 1#32
  let arg34 : BitVec 32 := Scf.iv c0_i32_61 c1_i32_62 k0_t1
  let c2_i32_275 : BitVec 32 := 2#32
  let v621 : BitVec 32 := Scalar.remsi arg34 c2_i32_275
  let c0_i32_286 : BitVec 32 := 0#32
  let c0_i32_287 : BitVec 32 := 0#32
  ![v621.toNat, 0, 0]
def k0_mult9 : BitVec 32 :=
  let c9216_i32 : BitVec 32 := 9216#32
  c9216_i32
def k0_mult10 : BitVec 32 :=
  let c9728_i32 : BitVec 32 := 9728#32
  c9728_i32
-- ==== ReferenceIdeal.lean ====
abbrev S2x128x2560 : Shape := ⟨3, ![2, 128, 2560]⟩
abbrev S2x128 : Shape := ⟨2, ![2, 128]⟩
abbrev S2560x10240 : Shape := ⟨2, ![2560, 10240]⟩
abbrev S1280x10240 : Shape := ⟨2, ![1280, 10240]⟩
abbrev S20x10240 : Shape := ⟨2, ![20, 10240]⟩
abbrev S2560x48 : Shape := ⟨2, ![2560, 48]⟩
abbrev S48x10240 : Shape := ⟨2, ![48, 10240]⟩
abbrev S256x2560 : Shape := ⟨2, ![256, 2560]⟩
abbrev S256x1 : Shape := ⟨2, ![256, 1]⟩
abbrev S256x48 : Shape := ⟨2, ![256, 48]⟩
abbrev S10x10240 : Shape := ⟨2, ![10, 10240]⟩
abbrev S10x1x10240 : Shape := ⟨3, ![10, 1, 10240]⟩
abbrev S10x128x10240 : Shape := ⟨3, ![10, 128, 10240]⟩
abbrev S256x1280 : Shape := ⟨2, ![256, 1280]⟩
abbrev S256x10240 : Shape := ⟨2, ![256, 10240]⟩
abbrev S256 : Shape := ⟨1, ![256]⟩

abbrev nBuf : Space → Nat
  | .hbm => 14
  | .vmem => 11
  | .smem => 0
  | _ => 0

abbrev bufTy : (tb : Table) → Fin (tcTables nBuf tb) → BufTy
  | .hbm, ⟨0, _⟩ => ⟨S2x128x2560, .fp8e4m3⟩
  | .hbm, ⟨1, _⟩ => ⟨S2x128, .f32⟩
  | .hbm, ⟨2, _⟩ => ⟨S2560x10240, .bf16⟩
  | .hbm, ⟨3, _⟩ => ⟨S1280x10240, .i8⟩
  | .hbm, ⟨4, _⟩ => ⟨S20x10240, .bf16⟩
  | .hbm, ⟨5, _⟩ => ⟨S2560x48, .bf16⟩
  | .hbm, ⟨6, _⟩ => ⟨S48x10240, .bf16⟩
  | .hbm, ⟨7, _⟩ => ⟨S256x2560, .fp8e4m3⟩
  | .hbm, ⟨8, _⟩ => ⟨S256x1, .f32⟩
  | .hbm, ⟨9, _⟩ => ⟨S256x1, .f32⟩
  | .hbm, ⟨10, _⟩ => ⟨S256x48, .f32⟩
  | .hbm, ⟨11, _⟩ => ⟨S2560x48, .f32⟩
  | .hbm, ⟨12, _⟩ => ⟨S48x10240, .f32⟩
  | .hbm, ⟨13, _⟩ => ⟨S2x128, .f32⟩
  | .local _ .vmem, ⟨0, _⟩ => ⟨S256x2560, .fp8e4m3⟩
  | .local _ .vmem, ⟨1, _⟩ => ⟨S256x1, .f32⟩
  | .local _ .vmem, ⟨2, _⟩ => ⟨S2560x10240, .bf16⟩
  | .local _ .vmem, ⟨3, _⟩ => ⟨S1280x10240, .i8⟩
  | .local _ .vmem, ⟨4, _⟩ => ⟨S20x10240, .bf16⟩
  | .local _ .vmem, ⟨5, _⟩ => ⟨S2560x48, .bf16⟩
  | .local _ .vmem, ⟨6, _⟩ => ⟨S48x10240, .bf16⟩
  | .local _ .vmem, ⟨7, _⟩ => ⟨S256x1, .f32⟩
  | .local _ .vmem, ⟨8, _⟩ => ⟨S256x48, .f32⟩
  | .local _ .vmem, ⟨9, _⟩ => ⟨S2560x48, .f32⟩
  | .local _ .vmem, ⟨10, _⟩ => ⟨S48x10240, .f32⟩
  | _, _ => ⟨S2x128x2560, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2_0 : Ref sig .tc := ⟨.hbm, 9, rfl⟩
abbrev main_v2_1 : Ref sig .tc := ⟨.hbm, 10, rfl⟩
abbrev main_v2_2 : Ref sig .tc := ⟨.hbm, 11, rfl⟩
abbrev main_v2_3 : Ref sig .tc := ⟨.hbm, 12, rfl⟩
abbrev main_v3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := .none

abbrev stage0_0 : Fin 1 → Memref sig .tc .vmem S256x2560 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2560x10240 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1280x10240 .i8 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S20x10240 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560x48 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x10240 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x48 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S2560x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x10240 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
-- ==== Proof.Names.lean ====
/-
  The kernel's own copies, by name. The kernel keeps its arrays in HBM and moves them itself: the weight matrix and the
  packed codes come in as 20 tiles of 512 columns, through two rings of four slots; the gradient of `b` goes out as 20
  tiles of 512 columns, through two slots. This module names the tiles (`wT`, `cT`, `dT`), the slots (`wS`, `cS`, `dS`) and the
  semaphores (`wM`, `cM`, `dM`), says that the slices the program writes are these names (`@[sl_canon]`), and states what it
  is to hold a slot, a tile, or a copy in flight.
-/
module

public import proofs.«01_k».proof.Defs
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import proofs.«01_k».proof.Proof.Gen.KernelIdeal.Frame
public import Idealize.ShloMosaic.Lib.Pipeline.KitQuiescent
public import Idealize.ShloMosaic.Lib.Pipeline.FrameValue
public import Idealize.ShloMosaic.Lib.Ring
public import Idealize.ShloMosaic.Lib.Affine
public import Idealize.ShloMosaic.Lib.Tactic

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ
abbrev 𝒱₀ : Variants := Variants.none

/-! ## The arrays in HBM and the buffers in VMEM that the rings run over -/

abbrev wHbm : Memref sig .tc .hbm S2560x10240 .bf16 := Memref.whole main_arg2
abbrev cHbm : Memref sig .tc .hbm S1280x10240 .i8 := Memref.whole main_arg3
abbrev dHbm : Memref sig .tc .hbm S48x10240 .f32 := Memref.whole main_v1_3
abbrev wBuf : Memref sig .tc .vmem S4x2560x512 .bf16 := Memref.whole cc0_scratch5
abbrev cBuf : Memref sig .tc .vmem S4x1280x512 .i8 := Memref.whole cc0_scratch6
abbrev dBuf : Memref sig .tc .vmem S2x48x512 .f32 := Memref.whole cc0_scratch17

/-! ## Offsets -/

abbrev tileOff (b : Fin 20) : Fin 2 → Nat := ![0, 512 * b.val]
abbrev slotOff4 (s : Fin 4) : Fin 3 → Nat := ![s.val, 0, 0]
abbrev slotOff2 (s : Fin 2) : Fin 3 → Nat := ![s.val, 0, 0]
abbrev semOff4 (s : Fin 4) : Fin 1 → Nat := ![s.val]
abbrev semOff2 (s : Fin 2) : Fin 1 → Nat := ![s.val]

theorem wTile_inb : ∀ b : Fin 20, ∀ a, tileOff b a + S2560x512.size a ≤ S2560x10240.size a := by decide
theorem cTile_inb : ∀ b : Fin 20, ∀ a, tileOff b a + S1280x512.size a ≤ S1280x10240.size a := by decide
theorem dTile_inb : ∀ b : Fin 20, ∀ a, tileOff b a + S48x512.size a ≤ S48x10240.size a := by decide
theorem wSlot_inb : ∀ s : Fin 4, ∀ a, slotOff4 s a + S1x2560x512.size a ≤ S4x2560x512.size a := by decide
theorem cSlot_inb : ∀ s : Fin 4, ∀ a, slotOff4 s a + S1x1280x512.size a ≤ S4x1280x512.size a := by decide
theorem dSlot_inb : ∀ s : Fin 2, ∀ a, slotOff2 s a + S1x48x512.size a ≤ S2x48x512.size a := by decide
theorem sem4_inb : ∀ s : Fin 4, ∀ a, semOff4 s a + S1.size a ≤ S4.size a := by decide
theorem sem2_inb : ∀ s : Fin 2, ∀ a, semOff2 s a + S1.size a ≤ S2.size a := by decide

/-! ## Tiles, slots and semaphores -/

/-- Columns `512 b` to `512 b + 511` of the weights, -/
def wT (b : Fin 20) : Memref sig .tc .hbm S2560x512 .bf16 :=
  wHbm.slice (Rect.unit (s := S2560x10240) (tileOff b) S2560x512.size (wTile_inb b)) (fun _ => rfl)
/-- of the packed codes, -/
def cT (b : Fin 20) : Memref sig .tc .hbm S1280x512 .i8 :=
  cHbm.slice (Rect.unit (s := S1280x10240) (tileOff b) S1280x512.size (cTile_inb b)) (fun _ => rfl)
/-- of the gradient of `b`. -/
def dT (b : Fin 20) : Memref sig .tc .hbm S48x512 .f32 :=
  dHbm.slice (Rect.unit (s := S48x10240) (tileOff b) S48x512.size (dTile_inb b)) (fun _ => rfl)
/-- Slot `s` of the weights' ring, -/
def wS (s : Fin 4) : Memref sig .tc .vmem S2560x512 .bf16 :=
  (wBuf.slice (Rect.unit (s := S4x2560x512) (slotOff4 s) S1x2560x512.size (wSlot_inb s)) (fun _ => rfl)).squeeze S2560x512 squeezes_S1x2560x512_S2560x512
/-- of the codes' ring, -/
def cS (s : Fin 4) : Memref sig .tc .vmem S1280x512 .i8 :=
  (cBuf.slice (Rect.unit (s := S4x1280x512) (slotOff4 s) S1x1280x512.size (cSlot_inb s)) (fun _ => rfl)).squeeze S1280x512 squeezes_S1x1280x512_S1280x512
/-- of the outgoing gradient's pair of slots. -/
def dS (s : Fin 2) : Memref sig .tc .vmem S48x512 .f32 :=
  (dBuf.slice (Rect.unit (s := S2x48x512) (slotOff2 s) S1x48x512.size (dSlot_inb s)) (fun _ => rfl)).squeeze S48x512 squeezes_S1x48x512_S48x512
/-- The semaphore of a weight slot, -/
def wM (s : Fin 4) : DmaSems sig S_ := (cc0_scratch19.slice (Rect.unit (s := S4) (semOff4 s) S1.size (sem4_inb s))).squeeze S_ squeezes_S1_S_
/-- of a code slot, -/
def cM (s : Fin 4) : DmaSems sig S_ := (cc0_scratch20.slice (Rect.unit (s := S4) (semOff4 s) S1.size (sem4_inb s))).squeeze S_ squeezes_S1_S_
/-- of an outgoing slot. -/
def dM (s : Fin 2) : DmaSems sig S_ := (cc0_scratch21.slice (Rect.unit (s := S2) (semOff2 s) S1.size (sem2_inb s))).squeeze S_ squeezes_S1_S_

instance (s : Fin 4) : ClosedOff (slotOff4 s) := ⟨slotOff4 s, rfl⟩
instance (s : Fin 2) : ClosedOff (slotOff2 s) := ⟨slotOff2 s, rfl⟩
/-- The slot of trip `k`, by the remainder the program computes. -/
instance (k : ℕ) : ClosedOff (slotOff4 (Ring.sl 4 k)) := ⟨![k % 4, 0, 0], rfl⟩
instance (k : ℕ) : ClosedOff (slotOff2 (Ring.sl 2 k)) := ⟨![k % 2, 0, 0], rfl⟩
instance (b : Fin 20) : ClosedOff (tileOff b) := ⟨tileOff b, rfl⟩

/-! ## The program's offsets, trip by trip -/

abbrev Trip : Type := Fin k0_t1_loop.trips
theorem trips_eq : k0_t1_loop.trips = 20 := by decide +kernel

theorem cond1_iff : ∀ k : Trip, k0_cond1 k = 1#1 ↔ k.val + 3 < 20 := by decide +kernel
theorem cond2_iff : ∀ k : Trip, k0_cond2 k = 1#1 ↔ 2 ≤ k.val := by decide +kernel

theorem off1_eq : ∀ k : Trip, k0_off1 k = semOff4 (Ring.sl 4 (k.val + 3)) := by decide +kernel
theorem off2_eq : ∀ k : Trip, k0_off2 k = slotOff4 (Ring.sl 4 (k.val + 3)) := by decide +kernel
theorem off3_eq : ∀ k : Trip, k.val + 3 < 20 → k0_off3 k = tileOff (Ring.bk 20 (k.val + 3)) := by decide +kernel
theorem off4_eq : ∀ k : Trip, k0_off4 k = slotOff4 (Ring.sl 4 (k.val + 3)) := by decide +kernel
theorem off5_eq : ∀ k : Trip, k.val + 3 < 20 → k0_off5 k = tileOff (Ring.bk 20 (k.val + 3)) := by decide +kernel
theorem off6_eq : ∀ k : Trip, k0_off6 k = semOff4 (Ring.sl 4 k.val) := by decide +kernel
theorem off7_eq : ∀ k : Trip, k0_off7 k = slotOff4 (Ring.sl 4 k.val) := by decide +kernel
theorem off8_eq : ∀ k : Trip, k0_off8 k = tileOff (Ring.bk 20 k.val) := by decide +kernel
theorem off9_eq : ∀ k : Trip, k0_off9 k = slotOff4 (Ring.sl 4 k.val) := by decide +kernel
theorem off10_eq : ∀ k : Trip, k0_off10 k = tileOff (Ring.bk 20 k.val) := by decide +kernel
theorem off62_eq : ∀ k : Trip, k0_off62 k = semOff2 (Ring.sl 2 k.val) := by decide +kernel
theorem off63_eq : ∀ k : Trip, 2 ≤ k.val → k0_off63 k = tileOff (Ring.bk 20 (k.val - 2)) := by decide +kernel
theorem off64_eq : ∀ k : Trip, k0_off64 k = slotOff2 (Ring.sl 2 k.val) := by decide +kernel
theorem off66_eq : ∀ k : Trip, k0_off66 k = semOff2 (Ring.sl 2 k.val) := by decide +kernel
theorem off67_eq : ∀ k : Trip, k0_off67 k = tileOff (Ring.bk 20 k.val) := by decide +kernel
theorem off68_eq : ∀ k : Trip, k0_off68 k = slotOff2 (Ring.sl 2 k.val) := by decide +kernel

/-! ## The program's slices are the names above -/

section Canon

theorem wT_congr {off : Fin 2 → Nat} {b : Fin 20} (e : off = tileOff b) (hh hs) :
    wHbm.slice (Rect.unit (s := S2560x10240) off S2560x512.size hh) hs = wT b := Memref.slice_unit_congr _ e _ _ _ (fun _ => rfl)
theorem cT_congr {off : Fin 2 → Nat} {b : Fin 20} (e : off = tileOff b) (hh hs) :
    cHbm.slice (Rect.unit (s := S1280x10240) off S1280x512.size hh) hs = cT b := Memref.slice_unit_congr _ e _ _ _ (fun _ => rfl)
theorem dT_congr {off : Fin 2 → Nat} {b : Fin 20} (e : off = tileOff b) (hh hs) :
    dHbm.slice (Rect.unit (s := S48x10240) off S48x512.size hh) hs = dT b := Memref.slice_unit_congr _ e _ _ _ (fun _ => rfl)
theorem wS_congr {off : Fin 3 → Nat} {s : Fin 4} (e : off = slotOff4 s) (hh hs) :
    (wBuf.slice (Rect.unit (s := S4x2560x512) off S1x2560x512.size hh) hs).squeeze S2560x512 squeezes_S1x2560x512_S2560x512 = wS s :=
  congrArg (fun M : Memref sig .tc .vmem S1x2560x512 .bf16 => M.squeeze S2560x512 squeezes_S1x2560x512_S2560x512) (Memref.slice_unit_congr _ e _ _ _ _)
theorem cS_congr {off : Fin 3 → Nat} {s : Fin 4} (e : off = slotOff4 s) (hh hs) :
    (cBuf.slice (Rect.unit (s := S4x1280x512) off S1x1280x512.size hh) hs).squeeze S1280x512 squeezes_S1x1280x512_S1280x512 = cS s :=
  congrArg (fun M : Memref sig .tc .vmem S1x1280x512 .i8 => M.squeeze S1280x512 squeezes_S1x1280x512_S1280x512) (Memref.slice_unit_congr _ e _ _ _ _)
theorem dS_congr {off : Fin 3 → Nat} {s : Fin 2} (e : off = slotOff2 s) (hh hs) :
    (dBuf.slice (Rect.unit (s := S2x48x512) off S1x48x512.size hh) hs).squeeze S48x512 squeezes_S1x48x512_S48x512 = dS s :=
  congrArg (fun M : Memref sig .tc .vmem S1x48x512 .f32 => M.squeeze S48x512 squeezes_S1x48x512_S48x512) (Memref.slice_unit_congr _ e _ _ _ _)
theorem wM_congr {off : Fin 1 → Nat} {s : Fin 4} (e : off = semOff4 s) (hh) :
    (cc0_scratch19.slice (Rect.unit (s := S4) off S1.size hh)).squeeze S_ squeezes_S1_S_ = wM s :=
  congrArg (fun A : DmaSems sig S1 => A.squeeze S_ squeezes_S1_S_) (SemArray.slice_unit_congr _ e _ _)
theorem cM_congr {off : Fin 1 → Nat} {s : Fin 4} (e : off = semOff4 s) (hh) :
    (cc0_scratch20.slice (Rect.unit (s := S4) off S1.size hh)).squeeze S_ squeezes_S1_S_ = cM s :=
  congrArg (fun A : DmaSems sig S1 => A.squeeze S_ squeezes_S1_S_) (SemArray.slice_unit_congr _ e _ _)
theorem dM_congr {off : Fin 1 → Nat} {s : Fin 2} (e : off = semOff2 s) (hh) :
    (cc0_scratch21.slice (Rect.unit (s := S2) off S1.size hh)).squeeze S_ squeezes_S1_S_ = dM s :=
  congrArg (fun A : DmaSems sig S1 => A.squeeze S_ squeezes_S1_S_) (SemArray.slice_unit_congr _ e _ _)

/-! The copies started before the loop: tiles 0, 1 and 2 into slots 0, 1 and 2. -/
@[sl_canon] theorem wT_0 (hh hs) : wHbm.slice (Rect.unit (s := S2560x10240) ![0, 0] S2560x512.size hh) hs = wT 0 := wT_congr (by decide) _ _
@[sl_canon] theorem wT_1 (hh hs) : wHbm.slice (Rect.unit (s := S2560x10240) ![0, 512] S2560x512.size hh) hs = wT 1 := wT_congr (by decide) _ _
@[sl_canon] theorem wT_2 (hh hs) : wHbm.slice (Rect.unit (s := S2560x10240) ![0, 1024] S2560x512.size hh) hs = wT 2 := wT_congr (by decide) _ _
@[sl_canon] theorem cT_0 (hh hs) : cHbm.slice (Rect.unit (s := S1280x10240) ![0, 0] S1280x512.size hh) hs = cT 0 := cT_congr (by decide) _ _
@[sl_canon] theorem cT_1 (hh hs) : cHbm.slice (Rect.unit (s := S1280x10240) ![0, 512] S1280x512.size hh) hs = cT 1 := cT_congr (by decide) _ _
@[sl_canon] theorem cT_2 (hh hs) : cHbm.slice (Rect.unit (s := S1280x10240) ![0, 1024] S1280x512.size hh) hs = cT 2 := cT_congr (by decide) _ _
@[sl_canon] theorem wS_0 (hh hs) : (wBuf.slice (Rect.unit (s := S4x2560x512) ![0, 0, 0] S1x2560x512.size hh) hs).squeeze S2560x512 squeezes_S1x2560x512_S2560x512 = wS 0 := wS_congr (by decide) _ _
@[sl_canon] theorem wS_1 (hh hs) : (wBuf.slice (Rect.unit (s := S4x2560x512) ![1, 0, 0] S1x2560x512.size hh) hs).squeeze S2560x512 squeezes_S1x2560x512_S2560x512 = wS 1 := wS_congr (by decide) _ _
@[sl_canon] theorem wS_2 (hh hs) : (wBuf.slice (Rect.unit (s := S4x2560x512) ![2, 0, 0] S1x2560x512.size hh) hs).squeeze S2560x512 squeezes_S1x2560x512_S2560x512 = wS 2 := wS_congr (by decide) _ _
@[sl_canon] theorem cS_0 (hh hs) : (cBuf.slice (Rect.unit (s := S4x1280x512) ![0, 0, 0] S1x1280x512.size hh) hs).squeeze S1280x512 squeezes_S1x1280x512_S1280x512 = cS 0 := cS_congr (by decide) _ _
@[sl_canon] theorem cS_1 (hh hs) : (cBuf.slice (Rect.unit (s := S4x1280x512) ![1, 0, 0] S1x1280x512.size hh) hs).squeeze S1280x512 squeezes_S1x1280x512_S1280x512 = cS 1 := cS_congr (by decide) _ _
@[sl_canon] theorem cS_2 (hh hs) : (cBuf.slice (Rect.unit (s := S4x1280x512) ![2, 0, 0] S1x1280x512.size hh) hs).squeeze S1280x512 squeezes_S1x1280x512_S1280x512 = cS 2 := cS_congr (by decide) _ _
@[sl_canon] theorem wM_0 (hh) : (cc0_scratch19.slice (Rect.unit (s := S4) ![0] S1.size hh)).squeeze S_ squeezes_S1_S_ = wM 0 := wM_congr (by decide) _
@[sl_canon] theorem wM_1 (hh) : (cc0_scratch19.slice (Rect.unit (s := S4) ![1] S1.size hh)).squeeze S_ squeezes_S1_S_ = wM 1 := wM_congr (by decide) _
@[sl_canon] theorem wM_2 (hh) : (cc0_scratch19.slice (Rect.unit (s := S4) ![2] S1.size hh)).squeeze S_ squeezes_S1_S_ = wM 2 := wM_congr (by decide) _
@[sl_canon] theorem cM_0 (hh) : (cc0_scratch20.slice (Rect.unit (s := S4) ![0] S1.size hh)).squeeze S_ squeezes_S1_S_ = cM 0 := cM_congr (by decide) _
@[sl_canon] theorem cM_1 (hh) : (cc0_scratch20.slice (Rect.unit (s := S4) ![1] S1.size hh)).squeeze S_ squeezes_S1_S_ = cM 1 := cM_congr (by decide) _
@[sl_canon] theorem cM_2 (hh) : (cc0_scratch20.slice (Rect.unit (s := S4) ![2] S1.size hh)).squeeze S_ squeezes_S1_S_ = cM 2 := cM_congr (by decide) _

/-! Trip `k` starts tile `k + 3` in slot `(k + 3) % 4`, -/
@[sl_canon] theorem wM_issue (k : Trip) (hh) : (cc0_scratch19.slice (Rect.unit (s := S4) (k0_off1 k) S1.size hh)).squeeze S_ squeezes_S1_S_ = wM (Ring.sl 4 (k.val + 3)) := wM_congr (off1_eq k) _
@[sl_canon] theorem cM_issue (k : Trip) (hh) : (cc0_scratch20.slice (Rect.unit (s := S4) (k0_off1 k) S1.size hh)).squeeze S_ squeezes_S1_S_ = cM (Ring.sl 4 (k.val + 3)) := cM_congr (off1_eq k) _
@[sl_canon] theorem wS_issue (k : Trip) (hh hs) : (wBuf.slice (Rect.unit (s := S4x2560x512) (k0_off2 k) S1x2560x512.size hh) hs).squeeze S2560x512 squeezes_S1x2560x512_S2560x512 = wS (Ring.sl 4 (k.val + 3)) := wS_congr (off2_eq k) _ _
@[sl_canon] theorem cS_issue (k : Trip) (hh hs) : (cBuf.slice (Rect.unit (s := S4x1280x512) (k0_off4 k) S1x1280x512.size hh) hs).squeeze S1280x512 squeezes_S1x1280x512_S1280x512 = cS (Ring.sl 4 (k.val + 3)) := cS_congr (off4_eq k) _ _
@[sl_canon] theorem wT_issue (k : Trip) (hk : k.val + 3 < 20) (hh hs) : wHbm.slice (Rect.unit (s := S2560x10240) (k0_off3 k) S2560x512.size hh) hs = wT (Ring.bk 20 (k.val + 3)) := wT_congr (off3_eq k hk) _ _
@[sl_canon] theorem cT_issue (k : Trip) (hk : k.val + 3 < 20) (hh hs) : cHbm.slice (Rect.unit (s := S1280x10240) (k0_off5 k) S1280x512.size hh) hs = cT (Ring.bk 20 (k.val + 3)) := cT_congr (off5_eq k hk) _ _
/-! waits for tile `k` in slot `k % 4`, -/
@[sl_canon] theorem wM_wait (k : Trip) (hh) : (cc0_scratch19.slice (Rect.unit (s := S4) (k0_off6 k) S1.size hh)).squeeze S_ squeezes_S1_S_ = wM (Ring.sl 4 k.val) := wM_congr (off6_eq k) _
@[sl_canon] theorem cM_wait (k : Trip) (hh) : (cc0_scratch20.slice (Rect.unit (s := S4) (k0_off6 k) S1.size hh)).squeeze S_ squeezes_S1_S_ = cM (Ring.sl 4 k.val) := cM_congr (off6_eq k) _
@[sl_canon] theorem wS_wait (k : Trip) (hh hs) : (wBuf.slice (Rect.unit (s := S4x2560x512) (k0_off7 k) S1x2560x512.size hh) hs).squeeze S2560x512 squeezes_S1x2560x512_S2560x512 = wS (Ring.sl 4 k.val) := wS_congr (off7_eq k) _ _
@[sl_canon] theorem cS_wait (k : Trip) (hh hs) : (cBuf.slice (Rect.unit (s := S4x1280x512) (k0_off9 k) S1x1280x512.size hh) hs).squeeze S1280x512 squeezes_S1x1280x512_S1280x512 = cS (Ring.sl 4 k.val) := cS_congr (off9_eq k) _ _
@[sl_canon] theorem wT_wait (k : Trip) (hh hs) : wHbm.slice (Rect.unit (s := S2560x10240) (k0_off8 k) S2560x512.size hh) hs = wT (Ring.bk 20 k.val) := wT_congr (off8_eq k) _ _
@[sl_canon] theorem cT_wait (k : Trip) (hh hs) : cHbm.slice (Rect.unit (s := S1280x10240) (k0_off10 k) S1280x512.size hh) hs = cT (Ring.bk 20 k.val) := cT_congr (off10_eq k) _ _
/-! waits for the outgoing tile `k - 2` and starts the outgoing tile `k`, both in slot `k % 2`. -/
@[sl_canon] theorem dM_wait (k : Trip) (hh) : (cc0_scratch21.slice (Rect.unit (s := S2) (k0_off62 k) S1.size hh)).squeeze S_ squeezes_S1_S_ = dM (Ring.sl 2 k.val) := dM_congr (off62_eq k) _
@[sl_canon] theorem dS_wait (k : Trip) (hh hs) : (dBuf.slice (Rect.unit (s := S2x48x512) (k0_off64 k) S1x48x512.size hh) hs).squeeze S48x512 squeezes_S1x48x512_S48x512 = dS (Ring.sl 2 k.val) := dS_congr (off64_eq k) _ _
@[sl_canon] theorem dT_wait (k : Trip) (hk : 2 ≤ k.val) (hh hs) : dHbm.slice (Rect.unit (s := S48x10240) (k0_off63 k) S48x512.size hh) hs = dT (Ring.bk 20 (k.val - 2)) := dT_congr (off63_eq k hk) _ _
@[sl_canon] theorem dM_issue (k : Trip) (hh) : (cc0_scratch21.slice (Rect.unit (s := S2) (k0_off66 k) S1.size hh)).squeeze S_ squeezes_S1_S_ = dM (Ring.sl 2 k.val) := dM_congr (off66_eq k) _
@[sl_canon] theorem dS_issue (k : Trip) (hh hs) : (dBuf.slice (Rect.unit (s := S2x48x512) (k0_off68 k) S1x48x512.size hh) hs).squeeze S48x512 squeezes_S1x48x512_S48x512 = dS (Ring.sl 2 k.val) := dS_congr (off68_eq k) _ _
@[sl_canon] theorem dT_issue (k : Trip) (hh hs) : dHbm.slice (Rect.unit (s := S48x10240) (k0_off67 k) S48x512.size hh) hs = dT (Ring.bk 20 k.val) := dT_congr (off67_eq k) _ _
/-! After the loop: the last two outgoing tiles. -/
@[sl_canon] theorem dM_0 (hh) : (cc0_scratch21.slice (Rect.unit (s := S2) ![0] S1.size hh)).squeeze S_ squeezes_S1_S_ = dM 0 := dM_congr (by decide) _
@[sl_canon] theorem dM_1 (hh) : (cc0_scratch21.slice (Rect.unit (s := S2) ![1] S1.size hh)).squeeze S_ squeezes_S1_S_ = dM 1 := dM_congr (by decide) _
@[sl_canon] theorem dS_0 (hh hs) : (dBuf.slice (Rect.unit (s := S2x48x512) ![0, 0, 0] S1x48x512.size hh) hs).squeeze S48x512 squeezes_S1x48x512_S48x512 = dS 0 := dS_congr (by decide) _ _
@[sl_canon] theorem dS_1 (hh hs) : (dBuf.slice (Rect.unit (s := S2x48x512) ![1, 0, 0] S1x48x512.size hh) hs).squeeze S48x512 squeezes_S1x48x512_S48x512 = dS 1 := dS_congr (by decide) _ _
@[sl_canon] theorem dT_18 (hh hs) : dHbm.slice (Rect.unit (s := S48x10240) ![0, 9216] S48x512.size hh) hs = dT 18 := dT_congr (by decide) _ _
@[sl_canon] theorem dT_19 (hh hs) : dHbm.slice (Rect.unit (s := S48x10240) ![0, 9728] S48x512.size hh) hs = dT 19 := dT_congr (by decide) _ _

end Canon

/-! ## What is held: a tile, a slot, a semaphore, a copy in flight -/

section Pieces
variable (c : Dev nD) (XW : Buf (Elt F) (wHbm.view.loc (c : Thread nD τ))) (XC : Buf (Elt F) (cHbm.view.loc (c : Thread nD τ)))

/-- Tile `b` of the weights, at the array's contents; -/
abbrev wHome (b : Fin 20) : sProp 𝕄 := (wT b).view.loc (c : Thread nD τ) ↦[(wT b).view.set]{fullShare} XW
/-- of the codes. -/
abbrev cHome (b : Fin 20) : sProp 𝕄 := (cT b).view.loc (c : Thread nD τ) ↦[(cT b).view.set]{fullShare} XC
/-- Outgoing tile `b`, at contents `g`. -/
abbrev dHome (b : Fin 20) (g : Buf (Elt F) (dHbm.view.loc (c : Thread nD τ))) : sProp 𝕄 := (dT b).view.loc (c : Thread nD τ) ↦[(dT b).view.set]{fullShare} g
/-- A slot at contents `f`. -/
abbrev wHeld (s : Fin 4) (f : Buf (Elt F) (wBuf.view.loc (c : Thread nD τ))) : sProp 𝕄 := (wS s).view.loc (c : Thread nD τ) ↦[(wS s).view.set]{fullShare} f
abbrev cHeld (s : Fin 4) (f : Buf (Elt F) (cBuf.view.loc (c : Thread nD τ))) : sProp 𝕄 := (cS s).view.loc (c : Thread nD τ) ↦[(cS s).view.set]{fullShare} f
abbrev dHeld (s : Fin 2) (f : Buf (Elt F) (dBuf.view.loc (c : Thread nD τ))) : sProp 𝕄 := (dS s).view.loc (c : Thread nD τ) ↦[(dS s).view.set]{fullShare} f
/-- A slot's semaphore at zero. -/
abbrev wCell (s : Fin 4) : sProp 𝕄 := semVal ((c : Thread nD τ), SemLoc.dma (wM s).sem) 0
abbrev cCell (s : Fin 4) : sProp 𝕄 := semVal ((c : Thread nD τ), SemLoc.dma (cM s).sem) 0
abbrev dCell (s : Fin 2) : sProp 𝕄 := semVal ((c : Thread nD τ), SemLoc.dma (dM s).sem) 0

/-- A tile's words. -/
abbrev wWords (b : Fin 20) : S2560x512.Idx → Elt F .bf16 := ReadAs.same.apply ((wT b).view.read (Elt F) XW)
abbrev cWords (b : Fin 20) : S1280x512.Idx → Elt F .i8 := ReadAs.same.apply ((cT b).view.read (Elt F) XC)
/-- A slot that held `f`, after tile `b` has landed in it. -/
abbrev wLanded (s : Fin 4) (b : Fin 20) (f : Buf (Elt F) (wBuf.view.loc (c : Thread nD τ))) : Buf (Elt F) (wBuf.view.loc (c : Thread nD τ)) :=
  (wS s).view.writes (Elt F) f [⟨Rect.whole S2560x512, wWords c XW b⟩]
abbrev cLanded (s : Fin 4) (b : Fin 20) (f : Buf (Elt F) (cBuf.view.loc (c : Thread nD τ))) : Buf (Elt F) (cBuf.view.loc (c : Thread nD τ)) :=
  (cS s).view.writes (Elt F) f [⟨Rect.whole S1280x512, cWords c XC b⟩]
/-- Tile `b` on its way into slot `s`: when the copy is over, the slot holds the tile and the tile is back. -/
abbrev wFl (s : Fin 4) (b : Fin 20) (f : Buf (Elt F) (wBuf.view.loc (c : Thread nD τ))) : sProp 𝕄 :=
  Transfers.Flight countersEmb (c : Thread nD τ) (SemLoc.dma (wM s).sem) () 81920 iprop(wHeld c s (wLanded c XW s b f) ∗ wHome c XW b)
abbrev cFl (s : Fin 4) (b : Fin 20) (f : Buf (Elt F) (cBuf.view.loc (c : Thread nD τ))) : sProp 𝕄 :=
  Transfers.Flight countersEmb (c : Thread nD τ) (SemLoc.dma (cM s).sem) () 20480 iprop(cHeld c s (cLanded c XC s b f) ∗ cHome c XC b)
/-- Outgoing slot `s`, at `f`, on its way to tile `b`, which will be at `g`. -/
abbrev dFl (s : Fin 2) (b : Fin 20) (g : Buf (Elt F) (dHbm.view.loc (c : Thread nD τ))) (f : Buf (Elt F) (dBuf.view.loc (c : Thread nD τ))) : sProp 𝕄 :=
  Transfers.Flight countersEmb (c : Thread nD τ) (SemLoc.dma (dM s).sem) () 3072 iprop(dHome c b g ∗ dHeld c s f)
/-- A buffer held whole at contents `f`. -/
abbrev heldM {sp : Space} {S : Shape} {e : EltTy} (M : Memref sig .tc sp S e) (f : Buf (Elt F) (M.view.loc (c : Thread nD τ))) : sProp 𝕄 :=
  M.view.loc (c : Thread nD τ) ↦[M.view.set]{fullShare} f

end Pieces

end Cert.Proof.K

end
-- ==== Proof.Rings.lean ====
/-
  The bookkeeping of the kernel's rings, apart from any program: what is in flight, free and at home before a trip, and how
  one trip changes it. A ring of four slots brings 20 tiles in, three ahead of the trip (`ring4`); a pair of slots takes 20
  tiles out, a slot being reused two trips later (`ring2`).
-/
module

public import proofs.«01_k».proof.Proof.Names

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

theorem bigSep_ins {NB : ℕ} (Φ : Fin NB → sProp 𝕄) {S : Finset (Fin NB)} {a : Fin NB} (h : a ∉ S) :
    bigSep (insert a S) Φ = iprop(Φ a ∗ bigSep S Φ) := by
  rw [bigSep_insert h]; rfl

section Ring4
variable (fl : Fin 4 → Fin 20 → sProp (MT nD τ sig Unit (Elt F) ℕ (Pipeline.UD sig nD τ) ℕ)) (free : Fin 4 → sProp (MT nD τ sig Unit (Elt F) ℕ (Pipeline.UD sig nD τ) ℕ)) (home : Fin 20 → sProp (MT nD τ sig Unit (Elt F) ℕ (Pipeline.UD sig nD τ) ℕ))

/-- Slot `p % 4`: tile `p` is on its way into it, or there is no tile `p` and it is free. -/
def role4 (p : ℕ) : sProp 𝕄 := if p < 20 then fl (Ring.sl 4 p) (Ring.bk 20 p) else free (Ring.sl 4 p)

/-- The ring before trip `k`: tiles `k`, `k + 1`, `k + 2` on their way, slot `(k + 3) % 4` free, the other tiles at home. -/
def ring4 (k : ℕ) : sProp 𝕄 :=
  iprop(role4 fl free k ∗ role4 fl free (k + 1) ∗ role4 fl free (k + 2) ∗ free (Ring.sl 4 (k + 3)) ∗ bigSep (Ring.homeSet 3 k) home)

/-- What a trip leaves alone, when it starts a tile; -/
def rest4 (k : ℕ) : sProp 𝕄 :=
  iprop(role4 fl free (k + 1) ∗ role4 fl free (k + 2) ∗ bigSep ((Ring.homeSet 3 k).erase (Ring.bk 20 (k + 3))) home)
/-- and when there is none left to start. -/
def rest4T (k : ℕ) : sProp 𝕄 :=
  iprop(role4 fl free (k + 1) ∗ role4 fl free (k + 2) ∗ free (Ring.sl 4 (k + 3)) ∗ bigSep (Ring.homeSet 3 k) home)

theorem sl4_next (k : ℕ) : Ring.sl 4 (k + 1 + 3) = Ring.sl 4 k := Ring.sl_add 4 k

theorem ring4_in (k : ℕ) (h : k + 3 < 20) :
    ring4 fl free home k ⊢ iprop(fl (Ring.sl 4 k) (Ring.bk 20 k) ∗ free (Ring.sl 4 (k + 3)) ∗ home (Ring.bk 20 (k + 3)) ∗ rest4 fl free home k) := by
  unfold ring4 rest4
  rw [role4, if_pos (show k < 20 by omega)]
  conv_lhs => rw [Ring.homeSet_out 3 k h, bigSep_ins home (Ring.bkL_not_mem_erase 3 k)]
  iintro ⟨H0, H1, H2, H3, H4, H5⟩
  isplitl [H0]; · iexact H0
  isplitl [H3]; · iexact H3
  isplitl [H4]; · iexact H4
  isplitl [H1]; · iexact H1
  isplitl [H2]; · iexact H2
  iexact H5

theorem ring4_out (k : ℕ) (h : k + 3 < 20) :
    iprop(fl (Ring.sl 4 (k + 3)) (Ring.bk 20 (k + 3)) ∗ free (Ring.sl 4 k) ∗ home (Ring.bk 20 k) ∗ rest4 fl free home k) ⊢ ring4 fl free home (k + 1) := by
  unfold ring4 rest4
  have e : role4 fl free (k + 1 + 2) = fl (Ring.sl 4 (k + 3)) (Ring.bk 20 (k + 3)) := by rw [role4, if_pos (show k + 1 + 2 < 20 by omega)]
  rw [e, sl4_next, Ring.homeSet_succ 3 k h, bigSep_ins home (Ring.bk_not_mem_erase 3 k (by omega) (by decide))]
  iintro ⟨H0, H1, H2, H3, H4, H5⟩
  isplitl [H3]; · iexact H3
  isplitl [H4]; · iexact H4
  isplitl [H0]; · iexact H0
  isplitl [H1]; · iexact H1
  isplitl [H2]; · iexact H2
  iexact H5

theorem ring4_inT (k : ℕ) (h : k < 20) :
    ring4 fl free home k ⊢ iprop(fl (Ring.sl 4 k) (Ring.bk 20 k) ∗ rest4T fl free home k) := by
  unfold ring4 rest4T
  rw [role4, if_pos h]

theorem ring4_outT (k : ℕ) (h : k < 20) (h3 : 20 ≤ k + 3) :
    iprop(free (Ring.sl 4 k) ∗ home (Ring.bk 20 k) ∗ rest4T fl free home k) ⊢ ring4 fl free home (k + 1) := by
  unfold ring4 rest4T
  have e : role4 fl free (k + 1 + 2) = free (Ring.sl 4 (k + 3)) := by rw [role4, if_neg (show ¬ k + 1 + 2 < 20 by omega)]
  rw [e, sl4_next, Ring.homeSet_succ_tail 3 k h3 h, bigSep_ins home (Ring.bk_not_mem_homeSet 3 k h (by decide))]
  iintro ⟨H1, H2, H3, H4, H0, H5⟩
  isplitl [H3]; · iexact H3
  isplitl [H4]; · iexact H4
  isplitl [H0]; · iexact H0
  isplitl [H1]; · iexact H1
  isplitl [H2]; · iexact H2
  iexact H5

/-- Before the first trip: tiles 0, 1, 2 started, slot 3 free. -/
theorem ring4_start :
    iprop(fl 0 0 ∗ fl 1 1 ∗ fl 2 2 ∗ free 3 ∗ bigSep (Ring.rangeSet 20 3 20) home) ⊢ ring4 fl free home 0 := by
  have e : (Ring.homeSet 3 0 : Finset (Fin 20)) = Ring.rangeSet 20 3 20 := by decide
  unfold ring4
  rw [e, role4, if_pos (by decide), role4, if_pos (by decide), role4, if_pos (by decide)]
  exact .rfl

/-- After the last: every slot free and every tile at home. -/
theorem ring4_end :
    ring4 fl free home 20 ⊢ iprop(free 0 ∗ free 1 ∗ free 2 ∗ free 3 ∗ bigSep Finset.univ home) := by
  have e : (Ring.homeSet 3 20 : Finset (Fin 20)) = Finset.univ := Ring.homeSet_last 3 20 le_rfl
  unfold ring4
  rw [e, role4, if_neg (by decide), role4, if_neg (by decide), role4, if_neg (by decide)]
  exact .rfl

end Ring4

section Ring2
variable (fl : Fin 2 → Fin 20 → sProp (MT nD τ sig Unit (Elt F) ℕ (Pipeline.UD sig nD τ) ℕ)) (free : Fin 2 → sProp (MT nD τ sig Unit (Elt F) ℕ (Pipeline.UD sig nD τ) ℕ)) (done todo : Fin 20 → sProp (MT nD τ sig Unit (Elt F) ℕ (Pipeline.UD sig nD τ) ℕ))

/-- Slot `j % 2`: tile `j - 2` is on its way out of it, or there is no such tile and it is free. -/
def role2 (j : ℕ) : sProp 𝕄 := if 2 ≤ j then fl (Ring.sl 2 j) (Ring.bk 20 (j - 2)) else free (Ring.sl 2 j)

/-- The pair of slots before trip `k`: tiles `k - 2` and `k - 1` on their way out, those before written, those from `k` not yet. -/
def ring2 (k : ℕ) : sProp 𝕄 :=
  iprop(role2 fl free k ∗ role2 fl free (k + 1) ∗ bigSep (Ring.rangeSet 20 0 (k - 2)) done ∗ bigSep (Ring.rangeSet 20 k 20) todo)

/-- What a trip leaves alone. -/
def rest2 (k : ℕ) : sProp 𝕄 :=
  iprop(role2 fl free (k + 1) ∗ bigSep (Ring.rangeSet 20 0 (k - 2)) done ∗ bigSep (Ring.rangeSet 20 (k + 1) 20) todo)

theorem bk_eq (k : ℕ) (h : k < 20) : (⟨k, h⟩ : Fin 20) = Ring.bk 20 k := Fin.ext (Ring.bk_val h).symm

theorem role2_next (k : ℕ) : role2 fl free (k + 1 + 1) = fl (Ring.sl 2 k) (Ring.bk 20 k) := by
  unfold role2
  rw [if_pos (show 2 ≤ k + 1 + 1 by omega), show k + 1 + 1 = k + 2 from rfl, Ring.sl_add, Nat.add_sub_cancel]

theorem ring2_in (k : ℕ) (h : k < 20) (h2 : 2 ≤ k) :
    ring2 fl free done todo k ⊢ iprop(fl (Ring.sl 2 k) (Ring.bk 20 (k - 2)) ∗ todo (Ring.bk 20 k) ∗ rest2 fl free done todo k) := by
  unfold ring2 rest2
  rw [role2, if_pos h2, Ring.bigSep_rangeSet_head h h, bk_eq]
  iintro ⟨H0, H1, H2, H3, H4⟩
  isplitl [H0]; · iexact H0
  isplitl [H3]; · iexact H3
  isplitl [H1]; · iexact H1
  isplitl [H2]; · iexact H2
  iexact H4

theorem ring2_out (k : ℕ) (h : k < 20) (h2 : 2 ≤ k) :
    iprop(fl (Ring.sl 2 k) (Ring.bk 20 k) ∗ done (Ring.bk 20 (k - 2)) ∗ rest2 fl free done todo k) ⊢ ring2 fl free done todo (k + 1) := by
  unfold ring2 rest2
  have e : k + 1 - 2 - 1 = k - 2 := by omega
  rw [role2_next, Ring.bigSep_rangeSet_last (lo := 0) (hi := k + 1 - 2) (by omega) (by omega), bk_eq, e]
  iintro ⟨H0, H1, H2, H3, H4⟩
  isplitl [H2]; · iexact H2
  isplitl [H0]; · iexact H0
  isplitl [H1 H3]
  · isplitl [H1]; · iexact H1
    iexact H3
  iexact H4

theorem ring2_in0 (k : ℕ) (h2 : k < 2) :
    ring2 fl free done todo k ⊢ iprop(free (Ring.sl 2 k) ∗ todo (Ring.bk 20 k) ∗ rest2 fl free done todo k) := by
  have h : k < 20 := by omega
  unfold ring2 rest2
  rw [role2, if_neg (by omega), Ring.bigSep_rangeSet_head h h, bk_eq]
  iintro ⟨H0, H1, H2, H3, H4⟩
  isplitl [H0]; · iexact H0
  isplitl [H3]; · iexact H3
  isplitl [H1]; · iexact H1
  isplitl [H2]; · iexact H2
  iexact H4

theorem ring2_out0 (k : ℕ) (h2 : k < 2) :
    iprop(fl (Ring.sl 2 k) (Ring.bk 20 k) ∗ rest2 fl free done todo k) ⊢ ring2 fl free done todo (k + 1) := by
  unfold ring2 rest2
  have e : k + 1 - 2 = k - 2 := by omega
  rw [role2_next, e]
  iintro ⟨H0, H1, H2, H3⟩
  isplitl [H1]; · iexact H1
  isplitl [H0]; · iexact H0
  isplitl [H2]; · iexact H2
  iexact H3

/-- Before the first trip: both slots free, every tile still to be written. -/
theorem ring2_start : iprop(free 0 ∗ free 1 ∗ bigSep Finset.univ todo) ⊢ ring2 fl free done todo 0 := by
  unfold ring2
  rw [role2, if_neg (by decide), role2, if_neg (by decide), Ring.rangeSet_univ, Ring.bigSep_rangeSet_empty (by decide)]
  iintro ⟨H0, H1, H2⟩
  isplitl [H0]; · iexact H0
  isplitl [H1]; · iexact H1
  isplitr [H2]; · iempintro
  iexact H2

/-- After the last: tiles 18 and 19 on their way, the others written. -/
theorem ring2_end : ring2 fl free done todo 20 ⊢ iprop(fl 0 18 ∗ fl 1 19 ∗ bigSep (Ring.rangeSet 20 0 18) done) := by
  unfold ring2
  have e0 : Ring.sl 2 20 = 0 := by decide
  have e1 : Ring.sl 2 (20 + 1) = 1 := by decide
  have e2 : Ring.bk 20 (20 - 2) = 18 := by decide
  have e3 : Ring.bk 20 (20 + 1 - 2) = 19 := by decide
  rw [role2, if_pos (by decide), role2, if_pos (by decide), Ring.bigSep_rangeSet_empty (lo := 20) (by decide), e0, e1, e2, e3]
  iintro ⟨H0, H1, H2, -⟩
  isplitl [H0]; · iexact H0
  isplitl [H1]; · iexact H1
  iexact H2

end Ring2

end Cert.Proof.K

end
-- ==== Proof.Trip.lean ====
/-
  One trip of the kernel's loop. Trip `k` starts tile `k + 3` of the weights and of the codes, waits for tile `k`, fills the
  tile of dequantization errors, adds the trip's part to the sums of squares and to the gradient accumulator, and sends out
  tile `k` of the gradient of `b`. The invariant says what the rings hold before trip `k` and that the two accumulators are
  the sums of the trips before (`lossBuf`, `gtBuf`).
-/
module

public import proofs.«01_k».proof.Proof.Rings
public import Idealize.ShloMosaic.Lib.Pipeline.Value

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The values of one trip, as functions of what it reads -/

section Values

/-- What the trip leaves of the sums of squares: `X` the activations, `E` the tile of errors, `B` the tile of `b`, `P` the
    product `x·a` rounded, `S` the row scales, `L` the sums before. -/
def lossVal (X : FVec F S256x2560 .bf16) (E : FVec F S2560x512 .bf16) (B : FVec F S48x512 .bf16) (P : FVec F S256x48 .bf16)
    (S L : FVec F S256x128 .f32) : FVec F S256x128 .f32 :=
  k0_pay62 (k0_pay53 X E) (k0_pay54 B P) (k0_pay58 X E B P S S) S S L
/-- What it leaves of the gradient accumulator, which held `G`. -/
def gtVal (X : FVec F S256x2560 .bf16) (E : FVec F S2560x512 .bf16) (B : FVec F S48x512 .bf16) (P : FVec F S256x48 .bf16)
    (S : FVec F S256x128 .f32) (G : FVec F S48x256 .f32) : FVec F S48x256 .f32 :=
  k0_pay64 (k0_pay53 X E) B (k0_pay54 B P) (k0_pay56 X E B P S) (k0_pay59 X E B P S) S S G
/-- The tile of the gradient of `b` it sends out; `T` is the product `x·a`, transposed and rounded. -/
def dbVal (X : FVec F S256x2560 .bf16) (E : FVec F S2560x512 .bf16) (B : FVec F S48x512 .bf16) (P : FVec F S256x48 .bf16)
    (S : FVec F S256x128 .f32) (T : FVec F S48x256 .bf16) : FVec F S48x512 .f32 :=
  k0_pay65 (k0_pay53 X E) (k0_pay54 B P) (k0_pay56 X E B P S) (k0_pay59 X E B P S) S S T

end Values

section Trip
variable (c : Dev nD) (XW : Buf (Elt F) (wHbm.view.loc (c : Thread nD τ))) (XC : Buf (Elt F) (cHbm.view.loc (c : Thread nD τ)))
  (gD : Buf (Elt F) (dHbm.view.loc (c : Thread nD τ))) (dW : Fin 20 → FVec F S48x512 .f32)

/-- The gradient of `b` after tile `b` has been written. -/
abbrev dOut (b : Fin 20) : Buf (Elt F) (dHbm.view.loc (c : Thread nD τ)) :=
  (dT b).view.writes (Elt F) gD [⟨Rect.whole S48x512, dW b⟩]

abbrev wRing (k : ℕ) : sProp 𝕄 := ring4 (fun s b => iprop(∃ f, wFl c XW s b f)) (fun s => iprop((∃ f, wHeld c s f) ∗ wCell c s)) (wHome c XW) k
abbrev cRing (k : ℕ) : sProp 𝕄 := ring4 (fun s b => iprop(∃ f, cFl c XC s b f)) (fun s => iprop((∃ f, cHeld c s f) ∗ cCell c s)) (cHome c XC) k
abbrev dRing (k : ℕ) : sProp 𝕄 :=
  ring2 (fun s b => iprop(∃ f, dFl c s b (dOut c gD dW b) f)) (fun s => iprop((∃ f, dHeld c s f) ∗ dCell c s)) (fun b => dHome c b (dOut c gD dW b)) (fun b => dHome c b gD) k
/-- The three rings before trip `k`. -/
@[irreducible] def rings (k : ℕ) : sProp 𝕄 := iprop(wRing c XW k ∗ cRing c XC k ∗ dRing c gD dW k)

theorem rings_eq (k : ℕ) : rings c XW XC gD dW k = iprop(wRing c XW k ∗ cRing c XC k ∗ dRing c gD dW k) := by unfold rings; rfl

/-! Whole-buffer loads and stores. -/
abbrev ld3 (k : Trip) (x3 : Buf (Elt F) ((Memref.whole cc0_scratch3).view.loc (c : Thread nD τ))) : FVec F S48x512 .bf16 :=
  View.readAt (Elt F) (Memref.whole cc0_scratch3).view (Rect.unit (s := S48x10240) (k0_off61 k) S48x512.size (k0_off61_inb k)).toLoadRect x3
abbrev ld7 (x7 : Buf (Elt F) ((Memref.whole cc0_scratch7).view.loc (c : Thread nD τ))) : FVec F S256x2560 .bf16 :=
  View.readAt (Elt F) (Memref.whole cc0_scratch7).view (Rect.unit (s := S256x2560) ![0, 0] S256x2560.size inb_S256x2560_S256x2560_0_0).toLoadRect x7
abbrev ld9 (x9 : Buf (Elt F) ((Memref.whole cc0_scratch9).view.loc (c : Thread nD τ))) : FVec F S256x128 .f32 :=
  View.readAt (Elt F) (Memref.whole cc0_scratch9).view (Rect.unit (s := S256x128) ![0, 0] S256x128.size inb_S256x128_S256x128_0_0).toLoadRect x9
abbrev ld10 (x10 : Buf (Elt F) ((Memref.whole cc0_scratch10).view.loc (c : Thread nD τ))) : FVec F S256x48 .bf16 :=
  View.readAt (Elt F) (Memref.whole cc0_scratch10).view (Rect.unit (s := S256x48) ![0, 0] S256x48.size inb_S256x48_S256x48_0_0).toLoadRect x10
abbrev ld11 (x11 : Buf (Elt F) ((Memref.whole cc0_scratch11).view.loc (c : Thread nD τ))) : FVec F S48x256 .bf16 :=
  View.readAt (Elt F) (Memref.whole cc0_scratch11).view (Rect.unit (s := S48x256) ![0, 0] S48x256.size inb_S48x256_S48x256_0_0).toLoadRect x11
abbrev ld12 (x12 : Buf (Elt F) ((Memref.whole cc0_scratch12).view.loc (c : Thread nD τ))) : FVec F S256x128 .f32 :=
  View.readAt (Elt F) (Memref.whole cc0_scratch12).view (Rect.unit (s := S256x128) ![0, 0] S256x128.size inb_S256x128_S256x128_0_0).toLoadRect x12
abbrev ld13 (x13 : Buf (Elt F) ((Memref.whole cc0_scratch13).view.loc (c : Thread nD τ))) : FVec F S48x256 .f32 :=
  View.readAt (Elt F) (Memref.whole cc0_scratch13).view (Rect.unit (s := S48x256) ![0, 0] S48x256.size inb_S48x256_S48x256_0_0).toLoadRect x13
abbrev st12 (x12 : Buf (Elt F) ((Memref.whole cc0_scratch12).view.loc (c : Thread nD τ))) (w : FVec F S256x128 .f32) : Buf (Elt F) ((Memref.whole cc0_scratch12).view.loc (c : Thread nD τ)) :=
  (Memref.whole cc0_scratch12).view.writes (Elt F) x12 [⟨Rect.unit (s := S256x128) ![0, 0] S256x128.size inb_S256x128_S256x128_0_0, w⟩]
abbrev st13 (x13 : Buf (Elt F) ((Memref.whole cc0_scratch13).view.loc (c : Thread nD τ))) (w : FVec F S48x256 .f32) : Buf (Elt F) ((Memref.whole cc0_scratch13).view.loc (c : Thread nD τ)) :=
  (Memref.whole cc0_scratch13).view.writes (Elt F) x13 [⟨Rect.unit (s := S48x256) ![0, 0] S48x256.size inb_S48x256_S48x256_0_0, w⟩]

abbrev tripG (v : FVec F S256x128 .f32) (k : Trip) : Prog (TpuEff nD τ sig (Elt F) Λ₀ .tc) Unit :=
  k0_t1_body (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 v k ()

/-- What is held before trip `k`: the rings; the buffers the trips only read, at `x3`, `x4`, …; the tile of errors at
    anything; the two accumulators at `x12`, `x13`. -/
abbrev resAt (x3 : Buf (Elt F) ((Memref.whole cc0_scratch3).view.loc (c : Thread nD τ)))
  (x4 : Buf (Elt F) ((Memref.whole cc0_scratch4).view.loc (c : Thread nD τ)))
  (x7 : Buf (Elt F) ((Memref.whole cc0_scratch7).view.loc (c : Thread nD τ)))
  (x9 : Buf (Elt F) ((Memref.whole cc0_scratch9).view.loc (c : Thread nD τ)))
  (x10 : Buf (Elt F) ((Memref.whole cc0_scratch10).view.loc (c : Thread nD τ)))
  (x11 : Buf (Elt F) ((Memref.whole cc0_scratch11).view.loc (c : Thread nD τ)))
  (x12 : Buf (Elt F) ((Memref.whole cc0_scratch12).view.loc (c : Thread nD τ)))
  (x13 : Buf (Elt F) ((Memref.whole cc0_scratch13).view.loc (c : Thread nD τ))) (k : ℕ) : sProp 𝕄 :=
  iprop(heldM c (Memref.whole cc0_scratch12) x12 ∗ heldM c (Memref.whole cc0_scratch13) x13 ∗ rings c XW XC gD dW k
    ∗ heldM c (Memref.whole cc0_scratch3) x3 ∗ heldM c (Memref.whole cc0_scratch4) x4 ∗ heldM c (Memref.whole cc0_scratch7) x7
    ∗ (∃ x8, heldM c (Memref.whole cc0_scratch8) x8) ∗ heldM c (Memref.whole cc0_scratch9) x9 ∗ heldM c (Memref.whole cc0_scratch10) x10
    ∗ heldM c (Memref.whole cc0_scratch11) x11
    ∗ (∃ W, owes (c : Thread nD τ) 0 W))

theorem off65_eq : ∀ k : Trip, k0_off65 k = slotOff2 (Ring.sl 2 k.val) := by decide +kernel

theorem dSlot_read_of {off : Fin 3 → Nat} {s : Fin 2} (e : off = slotOff2 s) (hh) (f : Buf (Elt F) (dBuf.view.loc (c : Thread nD τ))) (w : FVec F S48x512 .f32) :
    ReadAs.same.apply (View.read (Elt F) (dS s).view
      (View.write (Elt F) ((Memref.whole cc0_scratch17).access (Rect.unit (s := S2x48x512) off S1x48x512.size hh)) f (k0_pay75 w) Finset.univ)) = w := by
  subst e
  show shapeCast S48x512 (View.read (Elt F) ((Memref.whole cc0_scratch17).access (Rect.unit (s := S2x48x512) (slotOff2 s) S1x48x512.size hh))
    (View.write (Elt F) ((Memref.whole cc0_scratch17).access (Rect.unit (s := S2x48x512) (slotOff2 s) S1x48x512.size hh)) f (k0_pay75 w) Finset.univ)) (show S1x48x512.ShapeCasts S48x512 by decide) = w
  rw [View.read_write_univ]
  unfold k0_pay75
  exact shapeCast_shapeCast _ _ _

/-- A slot of the outgoing pair, after the trip's store through the whole buffer, reads what was stored. -/
theorem dSlot_read (k : Trip) (f : Buf (Elt F) (dBuf.view.loc (c : Thread nD τ))) (w : FVec F S48x512 .f32) :
    ReadAs.same.apply (View.read (Elt F) (dS (Ring.sl 2 k.val)).view
      (View.write (Elt F) ((Memref.whole cc0_scratch17).access (Rect.unit (s := S2x48x512) (k0_off65 k) S1x48x512.size (k0_off65_inb k))) f (k0_pay75 w) Finset.univ)) = w :=
  dSlot_read_of c (off65_eq k) _ f w

/-- So the copy the trip starts is the one that brings tile `k` its words. -/
theorem dFl_started (k : Trip) (f : Buf (Elt F) (dBuf.view.loc (c : Thread nD τ))) (w : FVec F S48x512 .f32) (hw : dW (Ring.bk 20 k.val) = w) :
    Transfers.Flight countersEmb (c : Thread nD τ) (SemLoc.dma (dM (Ring.sl 2 k.val)).sem) () 3072 iprop(
      dHome c (Ring.bk 20 k.val) ((dT (Ring.bk 20 k.val)).view.writes (Elt F) gD [⟨Rect.whole S48x512,
        ReadAs.same.apply (View.read (Elt F) (dS (Ring.sl 2 k.val)).view
          (View.write (Elt F) ((Memref.whole cc0_scratch17).access (Rect.unit (s := S2x48x512) (k0_off65 k) S1x48x512.size (k0_off65_inb k))) f (k0_pay75 w) Finset.univ))⟩])
      ∗ dHeld c (Ring.sl 2 k.val)
          (View.write (Elt F) ((Memref.whole cc0_scratch17).access (Rect.unit (s := S2x48x512) (k0_off65 k) S1x48x512.size (k0_off65_inb k))) f (k0_pay75 w) Finset.univ))
      ⊢ iprop(∃ f, dFl c (Ring.sl 2 k.val) (Ring.bk 20 k.val) (dOut c gD dW (Ring.bk 20 k.val)) f) := by
  rw [dSlot_read, ← hw]
  iintro H
  iexists _
  iexact H

set_option maxHeartbeats 4000000 in
set_option maxRecDepth 8192 in
/-- ONE TRIP, whatever the trip; the tile of errors is found by the run. -/
def tripRun (k : Trip) (x4 : Buf (Elt F) ((Memref.whole cc0_scratch4).view.loc (c : Thread nD τ))) :
    { E : FVec F S2560x512 .bf16 // ∀ (v : FVec F S256x128 .f32) (gD : Buf (Elt F) (dHbm.view.loc (c : Thread nD τ))) (dW : Fin 20 → FVec F S48x512 .f32)
        (x3 : Buf (Elt F) ((Memref.whole cc0_scratch3).view.loc (c : Thread nD τ)))
        (x7 : Buf (Elt F) ((Memref.whole cc0_scratch7).view.loc (c : Thread nD τ)))
        (x9 : Buf (Elt F) ((Memref.whole cc0_scratch9).view.loc (c : Thread nD τ)))
        (x10 : Buf (Elt F) ((Memref.whole cc0_scratch10).view.loc (c : Thread nD τ)))
        (x11 : Buf (Elt F) ((Memref.whole cc0_scratch11).view.loc (c : Thread nD τ)))
        (x12 : Buf (Elt F) ((Memref.whole cc0_scratch12).view.loc (c : Thread nD τ)))
        (x13 : Buf (Elt F) ((Memref.whole cc0_scratch13).view.loc (c : Thread nD τ))),
        dW (Ring.bk 20 k.val) = dbVal (ld7 c x7) E (ld3 c k x3) (ld10 c x10) (ld9 c x9) (ld11 c x11) →
        (resAt c XW XC gD dW x3 x4 x7 x9 x10 x11 x12 x13 k.val
          ⊢ wp frame (wpE (defs₀ (F := F)) 𝒱₀ (c : Thread nD τ) none) Set.univ (tripG v k)
            (fun _ => resAt c XW XC gD dW x3 x4 x7 x9 x10 x11
              (st12 c x12 (lossVal (ld7 c x7) E (ld3 c k x3) (ld10 c x10) (ld9 c x9) (ld12 c x12)))
              (st13 c x13 (gtVal (ld7 c x7) E (ld3 c k x3) (ld10 c x10) (ld9 c x9) (ld13 c x13))) (k.val + 1))) } := by
  refine ⟨?_, ?run⟩
  case run =>
    intro v gD dW x3 x7 x9 x10 x11 x12 x13 hd
    have hk : k.val < 20 := lt_of_lt_of_eq k.isLt trips_eq
    unfold resAt
    rw [rings_eq c XW XC gD dW k.val, rings_eq c XW XC gD dW (k.val + 1)]
    by_cases h3 : k.val + 3 < 20
    · have hc1 : k0_cond1 k = 1#1 := (cond1_iff k).2 h3
      by_cases h2 : 2 ≤ k.val
      · have hc2 : k0_cond2 k = 1#1 := (cond2_iff k).2 h2
        iintro ⟨H12, H13, ⟨HWr, HCr, HDr⟩, H3, H4, H7, ⟨%x8, H8⟩, H9, H10, H11, ⟨%W, HO⟩⟩
        ihave HWr := ring4_in _ _ _ k.val h3 $$ HWr
        ihave HCr := ring4_in _ _ _ k.val h3 $$ HCr
        ihave HDr := ring2_in _ _ _ _ k.val hk h2 $$ HDr
        icases HWr with ⟨⟨%f0, HW⟩, ⟨⟨%f3, HSW⟩, HCW⟩, HHW, HWr⟩
        icases HCr with ⟨⟨%g0, HC⟩, ⟨⟨%g3, HSC⟩, HCC⟩, HHC, HCr⟩
        icases HDr with ⟨⟨%fd, HD⟩, HHD, HDr⟩
        dsimp only [tripG]
        sl_unfold [k0_t1_body]
        sl_exec
        sl_step
        dsimp only [heldM, lossVal, gtVal, st12, st13, ld3, ld7, ld9, ld10, ld11, ld12, ld13, tripRun.sl.r_22, tripRun.sl.r_23, tripRun.sl.r_24, tripRun.sl.r_25, tripRun.sl.r_26, tripRun.sl.r_27]
        isplitl [H12]; · iexact H12
        isplitl [H13]; · iexact H13
        isplitl [HWr HCr HDr HW HW_dst HW_src HCW HC HC_dst HC_src HCC HD HD_dst]
        · isplitl [HWr HW HW_dst HW_src HCW]
          · iapply (ring4_out _ _ _ k.val h3)
            isplitl [HCW]; · iexists _; iexact HCW
            isplitl [HW HW_dst]
            · isplitl [HW_dst]; · iexists _; iexact HW_dst
              iexact HW
            isplitl [HW_src]; · iexact HW_src
            iexact HWr
          isplitl [HCr HC HC_dst HC_src HCC]
          · iapply (ring4_out _ _ _ k.val h3)
            isplitl [HCC]; · iexists _; iexact HCC
            isplitl [HC HC_dst]
            · isplitl [HC_dst]; · iexists _; iexact HC_dst
              iexact HC
            isplitl [HC_src]; · iexact HC_src
            iexact HCr
          iapply (ring2_out _ _ _ _ k.val hk h2)
          isplitl [HD]; · iapply (dFl_started c gD dW k fd _ hd); iexact HD
          isplitl [HD_dst]; · iexact HD_dst
          iexact HDr
        isplitl [H3]; · iexact H3
        isplitl [H4]; · iexact H4
        isplitl [H7]; · iexact H7
        isplitl [H8]; · iexists _; iexact H8
        isplitl [H9]; · iexact H9
        isplitl [H10]; · iexact H10
        isplitl [H11]; · iexact H11
        iexists _; iexact HO
      · have hc2 : ¬ k0_cond2 k = 1#1 := fun h => h2 ((cond2_iff k).1 h)
        iintro ⟨H12, H13, ⟨HWr, HCr, HDr⟩, H3, H4, H7, ⟨%x8, H8⟩, H9, H10, H11, ⟨%W, HO⟩⟩
        ihave HWr := ring4_in _ _ _ k.val h3 $$ HWr
        ihave HCr := ring4_in _ _ _ k.val h3 $$ HCr
        ihave HDr := ring2_in0 _ _ _ _ k.val (by omega) $$ HDr
        icases HWr with ⟨⟨%f0, HW⟩, ⟨⟨%f3, HSW⟩, HCW⟩, HHW, HWr⟩
        icases HCr with ⟨⟨%g0, HC⟩, ⟨⟨%g3, HSC⟩, HCC⟩, HHC, HCr⟩
        icases HDr with ⟨⟨⟨%fd, HD⟩, HDC⟩, HHD, HDr⟩
        dsimp only [tripG]
        sl_unfold [k0_t1_body]
        sl_exec
        sl_step
        dsimp only [heldM, lossVal, gtVal, st12, st13, ld3, ld7, ld9, ld10, ld11, ld12, ld13, tripRun.sl.r_51, tripRun.sl.r_52, tripRun.sl.r_53, tripRun.sl.r_54, tripRun.sl.r_55, tripRun.sl.r_56]
        rw [show tripRun.sl.v572_1 c XW XC k x4 = tripRun.sl.v572 c XW XC k x4 from rfl]
        isplitl [H12]; · iexact H12
        isplitl [H13]; · iexact H13
        isplitl [HWr HCr HDr HW HW_dst HW_src HCW HC HC_dst HC_src HCC HDC]
        · isplitl [HWr HW HW_dst HW_src HCW]
          · iapply (ring4_out _ _ _ k.val h3)
            isplitl [HCW]; · iexists _; iexact HCW
            isplitl [HW HW_dst]
            · isplitl [HW_dst]; · iexists _; iexact HW_dst
              iexact HW
            isplitl [HW_src]; · iexact HW_src
            iexact HWr
          isplitl [HCr HC HC_dst HC_src HCC]
          · iapply (ring4_out _ _ _ k.val h3)
            isplitl [HCC]; · iexists _; iexact HCC
            isplitl [HC HC_dst]
            · isplitl [HC_dst]; · iexists _; iexact HC_dst
              iexact HC
            isplitl [HC_src]; · iexact HC_src
            iexact HCr
          iapply (ring2_out0 _ _ _ _ k.val (by omega))
          isplitl [HDC]; · iapply (dFl_started c gD dW k fd _ hd); iexact HDC
          iexact HDr
        isplitl [H3]; · iexact H3
        isplitl [H4]; · iexact H4
        isplitl [H7]; · iexact H7
        isplitl [H8]; · iexists _; iexact H8
        isplitl [H9]; · iexact H9
        isplitl [H10]; · iexact H10
        isplitl [H11]; · iexact H11
        iexists _; iexact HO
    · have hc1 : ¬ k0_cond1 k = 1#1 := fun h => h3 ((cond1_iff k).1 h)
      have h2 : 2 ≤ k.val := by omega
      have hc2 : k0_cond2 k = 1#1 := (cond2_iff k).2 h2
      iintro ⟨H12, H13, ⟨HWr, HCr, HDr⟩, H3, H4, H7, ⟨%x8, H8⟩, H9, H10, H11, ⟨%W, HO⟩⟩
      ihave HWr := ring4_inT _ _ _ k.val hk $$ HWr
      ihave HCr := ring4_inT _ _ _ k.val hk $$ HCr
      ihave HDr := ring2_in _ _ _ _ k.val hk h2 $$ HDr
      icases HWr with ⟨⟨%f0, HW⟩, HWr⟩
      icases HCr with ⟨⟨%g0, HC⟩, HCr⟩
      icases HDr with ⟨⟨%fd, HD⟩, HHD, HDr⟩
      dsimp only [tripG]
      sl_unfold [k0_t1_body]
      sl_exec
      sl_step
      dsimp only [heldM, lossVal, gtVal, st12, st13, ld3, ld7, ld9, ld10, ld11, ld12, ld13, tripRun.sl.r_80, tripRun.sl.r_81, tripRun.sl.r_82, tripRun.sl.r_83, tripRun.sl.r_84, tripRun.sl.r_85]
      rw [show tripRun.sl.v572_2 c XW XC k x4 = tripRun.sl.v572 c XW XC k x4 from rfl]
      isplitl [H12]; · iexact H12
      isplitl [H13]; · iexact H13
      isplitl [HWr HCr HDr HW HW_dst HW_src HC HC_dst HC_src HD HD_dst]
      · isplitl [HWr HW HW_dst HW_src]
        · iapply (ring4_outT _ _ _ k.val hk (by omega))
          isplitl [HW HW_dst]
          · isplitl [HW_dst]; · iexists _; iexact HW_dst
            iexact HW
          isplitl [HW_src]; · iexact HW_src
          iexact HWr
        isplitl [HCr HC HC_dst HC_src]
        · iapply (ring4_outT _ _ _ k.val hk (by omega))
          isplitl [HC HC_dst]
          · isplitl [HC_dst]; · iexists _; iexact HC_dst
            iexact HC
          isplitl [HC_src]; · iexact HC_src
          iexact HCr
        iapply (ring2_out _ _ _ _ k.val hk h2)
        isplitl [HD]; · iapply (dFl_started c gD dW k fd _ hd); iexact HD
        isplitl [HD_dst]; · iexact HD_dst
        iexact HDr
      isplitl [H3]; · iexact H3
      isplitl [H4]; · iexact H4
      isplitl [H7]; · iexact H7
      isplitl [H8]; · iexists _; iexact H8
      isplitl [H9]; · iexact H9
      isplitl [H10]; · iexact H10
      isplitl [H11]; · iexact H11
      iexists _; iexact HO

end Trip

end Cert.Proof.K

end
-- ==== Proof.Loop.lean ====
/-
  The kernel's loop: the invariant over its 20 trips, from what one trip does (`tripRun`).
-/
module

public import proofs.«01_k».proof.Proof.Trip
public import Idealize.ShloMosaic.Lib.Pipeline.Value

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

section Trip
variable (c : Dev nD) (XW : Buf (Elt F) (wHbm.view.loc (c : Thread nD τ))) (XC : Buf (Elt F) (cHbm.view.loc (c : Thread nD τ)))
  (gD : Buf (Elt F) (dHbm.view.loc (c : Thread nD τ)))

/-! ## The loop -/

/-- Tile `b`'s trip. -/
abbrev tripOf (b : Fin 20) : Trip := Fin.cast trips_eq.symm b

/-- The tile of errors of trip `k`. -/
abbrev eOf (x4 : Buf (Elt F) ((Memref.whole cc0_scratch4).view.loc (c : Thread nD τ))) (k : Trip) : FVec F S2560x512 .bf16 := (tripRun c XW XC k x4).1

section Loop
variable (x3 : Buf (Elt F) ((Memref.whole cc0_scratch3).view.loc (c : Thread nD τ))) (x4 : Buf (Elt F) ((Memref.whole cc0_scratch4).view.loc (c : Thread nD τ))) (x7 : Buf (Elt F) ((Memref.whole cc0_scratch7).view.loc (c : Thread nD τ)))
  (x9 : Buf (Elt F) ((Memref.whole cc0_scratch9).view.loc (c : Thread nD τ))) (x10 : Buf (Elt F) ((Memref.whole cc0_scratch10).view.loc (c : Thread nD τ))) (x11 : Buf (Elt F) ((Memref.whole cc0_scratch11).view.loc (c : Thread nD τ)))
  (l0 : Buf (Elt F) ((Memref.whole cc0_scratch12).view.loc (c : Thread nD τ))) (g0 : Buf (Elt F) ((Memref.whole cc0_scratch13).view.loc (c : Thread nD τ)))

/-- The sums of squares before trip `k`: `l0` before the first, then one trip's store after another. -/
def lossBuf : ℕ → Buf (Elt F) ((Memref.whole cc0_scratch12).view.loc (c : Thread nD τ))
  | 0 => l0
  | k + 1 =>
    if h : k < k0_t1_loop.trips then
      st12 c (lossBuf k) (lossVal (ld7 c x7) (eOf c XW XC x4 ⟨k, h⟩) (ld3 c ⟨k, h⟩ x3) (ld10 c x10) (ld9 c x9) (ld12 c (lossBuf k)))
    else lossBuf k
/-- The gradient accumulator before trip `k`. -/
def gtBuf : ℕ → Buf (Elt F) ((Memref.whole cc0_scratch13).view.loc (c : Thread nD τ))
  | 0 => g0
  | k + 1 =>
    if h : k < k0_t1_loop.trips then
      st13 c (gtBuf k) (gtVal (ld7 c x7) (eOf c XW XC x4 ⟨k, h⟩) (ld3 c ⟨k, h⟩ x3) (ld10 c x10) (ld9 c x9) (ld13 c (gtBuf k)))
    else gtBuf k
/-- The outgoing tiles. -/
def dOf (b : Fin 20) : FVec F S48x512 .f32 :=
  dbVal (ld7 c x7) (eOf c XW XC x4 (tripOf b)) (ld3 c (tripOf b) x3) (ld10 c x10) (ld9 c x9) (ld11 c x11)

/-- Everything held before trip `k`, at the values of the trips before. -/
abbrev loopAt (k : ℕ) : sProp 𝕄 :=
  resAt c XW XC gD (dOf c XW XC x3 x4 x7 x9 x10 x11) x3 x4 x7 x9 x10 x11
    (lossBuf c XW XC x3 x4 x7 x9 x10 l0 k) (gtBuf c XW XC x3 x4 x7 x9 x10 g0 k) k

theorem dOf_bk (k : Trip) : dOf c XW XC x3 x4 x7 x9 x10 x11 (Ring.bk 20 k.val)
    = dbVal (ld7 c x7) (eOf c XW XC x4 k) (ld3 c k x3) (ld10 c x10) (ld9 c x9) (ld11 c x11) := by
  have e : tripOf (Ring.bk 20 k.val) = k := Fin.ext (show (Ring.bk 20 k.val).val = k.val from Ring.bk_val (lt_of_lt_of_eq k.isLt trips_eq))
  unfold dOf; rw [e]

set_option warn.classDefReducibility false in
/-- THE LOOP'S INVARIANT. -/
def loopInv (v : FVec F S256x128 .f32) :
    LoopInvTy_k0_t1 (F := F) Unit ℕ (Pipeline.UD sig nD τ) ℕ 𝒱₀ c none Set.univ (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22 v where
  inv k _ := loopAt c XW XC gD x3 x4 x7 x9 x10 x11 l0 g0 k
  step k _ := by
    have e12 : lossBuf c XW XC x3 x4 x7 x9 x10 l0 (k.val + 1) = st12 c (lossBuf c XW XC x3 x4 x7 x9 x10 l0 k.val)
        (lossVal (ld7 c x7) (eOf c XW XC x4 k) (ld3 c k x3) (ld10 c x10) (ld9 c x9) (ld12 c (lossBuf c XW XC x3 x4 x7 x9 x10 l0 k.val))) := by
      rw [lossBuf, dif_pos k.isLt]
    have e13 : gtBuf c XW XC x3 x4 x7 x9 x10 g0 (k.val + 1) = st13 c (gtBuf c XW XC x3 x4 x7 x9 x10 g0 k.val)
        (gtVal (ld7 c x7) (eOf c XW XC x4 k) (ld3 c k x3) (ld10 c x10) (ld9 c x9) (ld13 c (gtBuf c XW XC x3 x4 x7 x9 x10 g0 k.val))) := by
      rw [gtBuf, dif_pos k.isLt]
    unfold loopAt
    rw [e12, e13]
    exact (tripRun c XW XC k x4).2 v gD _ x3 x7 x9 x10 x11 _ _ (dOf_bk c XW XC x3 x4 x7 x9 x10 x11 k)

end Loop

end Trip

end Cert.Proof.K

end
-- ==== Proof.Blocks.lean ====
/-
  A buffer held whole is held tile by tile, or slot by slot, and back: the weights, the codes and the outgoing gradient in
  HBM by their 20 tiles; the rings' buffers in VMEM by their slots.
-/
module

public import proofs.«01_k».proof.Proof.Loop

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The element sets: disjoint, and together the buffer -/

abbrev wT_I (b : Fin 20) : Finset S2560x10240.Idx := (Rect.unit (s := S2560x10240) (tileOff b) S2560x512.size (wTile_inb b)).set
theorem wT_set (b : Fin 20) : (wT b).view.set = wT_I b := View.set_slice_whole _ _
theorem wT_disjoint (b b' : Fin 20) (h : b ≠ b') : Disjoint (wT_I b) (wT_I b') :=
  Ring.lead_disjoint (s := S2560x10240) 1 512 tileOff S2560x512.size wTile_inb (by decide) (by decide) b b' h
theorem wT_cover : Finset.univ.biUnion wT_I = Finset.univ :=
  Ring.lead_cover (s := S2560x10240) 1 512 tileOff S2560x512.size wTile_inb (by decide) (by decide) (by decide) (by decide) (by decide)

abbrev cT_I (b : Fin 20) : Finset S1280x10240.Idx := (Rect.unit (s := S1280x10240) (tileOff b) S1280x512.size (cTile_inb b)).set
theorem cT_set (b : Fin 20) : (cT b).view.set = cT_I b := View.set_slice_whole _ _
theorem cT_disjoint (b b' : Fin 20) (h : b ≠ b') : Disjoint (cT_I b) (cT_I b') :=
  Ring.lead_disjoint (s := S1280x10240) 1 512 tileOff S1280x512.size cTile_inb (by decide) (by decide) b b' h
theorem cT_cover : Finset.univ.biUnion cT_I = Finset.univ :=
  Ring.lead_cover (s := S1280x10240) 1 512 tileOff S1280x512.size cTile_inb (by decide) (by decide) (by decide) (by decide) (by decide)

abbrev dT_I (b : Fin 20) : Finset S48x10240.Idx := (Rect.unit (s := S48x10240) (tileOff b) S48x512.size (dTile_inb b)).set
theorem dT_set (b : Fin 20) : (dT b).view.set = dT_I b := View.set_slice_whole _ _
theorem dT_disjoint (b b' : Fin 20) (h : b ≠ b') : Disjoint (dT_I b) (dT_I b') :=
  Ring.lead_disjoint (s := S48x10240) 1 512 tileOff S48x512.size dTile_inb (by decide) (by decide) b b' h
theorem dT_cover : Finset.univ.biUnion dT_I = Finset.univ :=
  Ring.lead_cover (s := S48x10240) 1 512 tileOff S48x512.size dTile_inb (by decide) (by decide) (by decide) (by decide) (by decide)

abbrev wS_I (b : Fin 4) : Finset S4x2560x512.Idx := (Rect.unit (s := S4x2560x512) (slotOff4 b) S1x2560x512.size (wSlot_inb b)).set
theorem wS_set (b : Fin 4) : (wS b).view.set = wS_I b := (View.set_reshape _ _).trans (View.set_slice_whole _ _)
theorem wS_disjoint (b b' : Fin 4) (h : b ≠ b') : Disjoint (wS_I b) (wS_I b') :=
  Ring.lead_disjoint (s := S4x2560x512) 0 1 slotOff4 S1x2560x512.size wSlot_inb (by decide) (by decide) b b' h
theorem wS_cover : Finset.univ.biUnion wS_I = Finset.univ :=
  Ring.lead_cover (s := S4x2560x512) 0 1 slotOff4 S1x2560x512.size wSlot_inb (by decide) (by decide) (by decide) (by decide) (by decide)

abbrev cS_I (b : Fin 4) : Finset S4x1280x512.Idx := (Rect.unit (s := S4x1280x512) (slotOff4 b) S1x1280x512.size (cSlot_inb b)).set
theorem cS_set (b : Fin 4) : (cS b).view.set = cS_I b := (View.set_reshape _ _).trans (View.set_slice_whole _ _)
theorem cS_disjoint (b b' : Fin 4) (h : b ≠ b') : Disjoint (cS_I b) (cS_I b') :=
  Ring.lead_disjoint (s := S4x1280x512) 0 1 slotOff4 S1x1280x512.size cSlot_inb (by decide) (by decide) b b' h
theorem cS_cover : Finset.univ.biUnion cS_I = Finset.univ :=
  Ring.lead_cover (s := S4x1280x512) 0 1 slotOff4 S1x1280x512.size cSlot_inb (by decide) (by decide) (by decide) (by decide) (by decide)

abbrev dS_I (b : Fin 2) : Finset S2x48x512.Idx := (Rect.unit (s := S2x48x512) (slotOff2 b) S1x48x512.size (dSlot_inb b)).set
theorem dS_set (b : Fin 2) : (dS b).view.set = dS_I b := (View.set_reshape _ _).trans (View.set_slice_whole _ _)
theorem dS_disjoint (b b' : Fin 2) (h : b ≠ b') : Disjoint (dS_I b) (dS_I b') :=
  Ring.lead_disjoint (s := S2x48x512) 0 1 slotOff2 S1x48x512.size dSlot_inb (by decide) (by decide) b b' h
theorem dS_cover : Finset.univ.biUnion dS_I = Finset.univ :=
  Ring.lead_cover (s := S2x48x512) 0 1 slotOff2 S1x48x512.size dSlot_inb (by decide) (by decide) (by decide) (by decide) (by decide)

theorem entails_of_eq {P Q : sProp 𝕄} (e : P = Q) : P ⊢ Q := e ▸ .rfl

/-! ## Splitting and joining -/

section Pieces
variable (c : Dev nD)

theorem wT_whole (f : Buf (Elt F) (wHbm.view.loc (c : Thread nD τ))) :
    (wHbm.view.loc (c : Thread nD τ) ↦{fullShare} f : sProp 𝕄) = bigSep Finset.univ fun b => (wT b).view.loc (c : Thread nD τ) ↦[(wT b).view.set]{fullShare} f := by
  refine (Ring.pointsTo_blocks (ℓ := (c : Thread nD τ).loc main_arg2) wT_I wT_disjoint wT_cover f).trans ?_
  exact bigSep_congr fun b _ => by rw [← wT_set]; rfl
theorem cT_whole (f : Buf (Elt F) (cHbm.view.loc (c : Thread nD τ))) :
    (cHbm.view.loc (c : Thread nD τ) ↦{fullShare} f : sProp 𝕄) = bigSep Finset.univ fun b => (cT b).view.loc (c : Thread nD τ) ↦[(cT b).view.set]{fullShare} f := by
  refine (Ring.pointsTo_blocks (ℓ := (c : Thread nD τ).loc main_arg3) cT_I cT_disjoint cT_cover f).trans ?_
  exact bigSep_congr fun b _ => by rw [← cT_set]; rfl
theorem dT_whole (f : Buf (Elt F) (dHbm.view.loc (c : Thread nD τ))) :
    (dHbm.view.loc (c : Thread nD τ) ↦{fullShare} f : sProp 𝕄) = bigSep Finset.univ fun b => (dT b).view.loc (c : Thread nD τ) ↦[(dT b).view.set]{fullShare} f := by
  refine (Ring.pointsTo_blocks (ℓ := (c : Thread nD τ).loc main_v1_3) dT_I dT_disjoint dT_cover f).trans ?_
  exact bigSep_congr fun b _ => by rw [← dT_set]; rfl
theorem wS_whole (f : Buf (Elt F) (wBuf.view.loc (c : Thread nD τ))) :
    (wBuf.view.loc (c : Thread nD τ) ↦{fullShare} f : sProp 𝕄) = bigSep Finset.univ fun b => (wS b).view.loc (c : Thread nD τ) ↦[(wS b).view.set]{fullShare} f := by
  refine (Ring.pointsTo_blocks (ℓ := (c : Thread nD τ).loc cc0_scratch5) wS_I wS_disjoint wS_cover f).trans ?_
  exact bigSep_congr fun b _ => by rw [← wS_set]; rfl
theorem cS_whole (f : Buf (Elt F) (cBuf.view.loc (c : Thread nD τ))) :
    (cBuf.view.loc (c : Thread nD τ) ↦{fullShare} f : sProp 𝕄) = bigSep Finset.univ fun b => (cS b).view.loc (c : Thread nD τ) ↦[(cS b).view.set]{fullShare} f := by
  refine (Ring.pointsTo_blocks (ℓ := (c : Thread nD τ).loc cc0_scratch6) cS_I cS_disjoint cS_cover f).trans ?_
  exact bigSep_congr fun b _ => by rw [← cS_set]; rfl
theorem dS_whole (f : Buf (Elt F) (dBuf.view.loc (c : Thread nD τ))) :
    (dBuf.view.loc (c : Thread nD τ) ↦{fullShare} f : sProp 𝕄) = bigSep Finset.univ fun b => (dS b).view.loc (c : Thread nD τ) ↦[(dS b).view.set]{fullShare} f := by
  refine (Ring.pointsTo_blocks (ℓ := (c : Thread nD τ).loc cc0_scratch17) dS_I dS_disjoint dS_cover f).trans ?_
  exact bigSep_congr fun b _ => by rw [← dS_set]; rfl
/-- Slots at contents of their own are the buffer at some contents. -/
theorem wS_join :
    bigSep Finset.univ (fun b => iprop(∃ f, (wS b).view.loc (c : Thread nD τ) ↦[(wS b).view.set]{fullShare} f)) ⊢ (iprop(∃ f, wBuf.view.loc (c : Thread nD τ) ↦{fullShare} f) : sProp 𝕄) := by
  refine (entails_of_eq ?_).trans (Ring.pointsTo_blocks_join_exists (ℓ := (c : Thread nD τ).loc cc0_scratch5) wS_I wS_disjoint wS_cover (wBuf.view.junk : Buf (Elt F) (wBuf.view.loc (c : Thread nD τ))))
  exact bigSep_congr fun b _ => by rw [← wS_set]; rfl
/-- Slots at contents of their own are the buffer at some contents. -/
theorem cS_join :
    bigSep Finset.univ (fun b => iprop(∃ f, (cS b).view.loc (c : Thread nD τ) ↦[(cS b).view.set]{fullShare} f)) ⊢ (iprop(∃ f, cBuf.view.loc (c : Thread nD τ) ↦{fullShare} f) : sProp 𝕄) := by
  refine (entails_of_eq ?_).trans (Ring.pointsTo_blocks_join_exists (ℓ := (c : Thread nD τ).loc cc0_scratch6) cS_I cS_disjoint cS_cover (cBuf.view.junk : Buf (Elt F) (cBuf.view.loc (c : Thread nD τ))))
  exact bigSep_congr fun b _ => by rw [← cS_set]; rfl
/-- Slots at contents of their own are the buffer at some contents. -/
theorem dS_join :
    bigSep Finset.univ (fun b => iprop(∃ f, (dS b).view.loc (c : Thread nD τ) ↦[(dS b).view.set]{fullShare} f)) ⊢ (iprop(∃ f, dBuf.view.loc (c : Thread nD τ) ↦{fullShare} f) : sProp 𝕄) := by
  refine (entails_of_eq ?_).trans (Ring.pointsTo_blocks_join_exists (ℓ := (c : Thread nD τ).loc cc0_scratch17) dS_I dS_disjoint dS_cover (dBuf.view.junk : Buf (Elt F) (dBuf.view.loc (c : Thread nD τ))))
  exact bigSep_congr fun b _ => by rw [← dS_set]; rfl

variable (gD : Buf (Elt F) (dHbm.view.loc (c : Thread nD τ))) (dW : Fin 20 → FVec F S48x512 .f32)

/-- The tile an element of the outgoing gradient lies in. -/
abbrev tileAt (i : S48x10240.Idx) : Fin 20 := ⟨(i 1).val / 512, by have h : (i 1).val < 10240 := (i 1).isLt; omega⟩
/-- The outgoing gradient, every tile written. -/
def dFull : Buf (Elt F) (dHbm.view.loc (c : Thread nD τ)) := fun i => dOut c gD dW (tileAt i) i

theorem mem_dT_I (b : Fin 20) (i : S48x10240.Idx) (h : i ∈ dT_I b) : tileAt i = b := by
  have h1 := (Rect.mem_set_unit.mp h) 1
  have a : 512 * b.val ≤ (i 1).val ∧ (i 1).val < 512 * b.val + 512 := h1
  refine Fin.ext ?_
  show (i 1).val / 512 = b.val
  omega

theorem dT_tile (b : Fin 20) : (dHome c b (dOut c gD dW b) : sProp 𝕄) = dHome c b (dFull c gD dW) := by
  refine pointsTo_congr fun i hi => ?_
  have e : tileAt i = b := mem_dT_I b i ((dT_set b) ▸ hi)
  unfold dFull
  rw [e]

/-- Every outgoing tile written is the outgoing gradient written. -/
theorem dT_done : (bigSep Finset.univ (fun b => dHome c b (dOut c gD dW b)) : sProp 𝕄) = (dHbm.view.loc (c : Thread nD τ) ↦{fullShare} dFull c gD dW : sProp 𝕄) := by
  refine Eq.trans ?_ (dT_whole c (dFull c gD dW)).symm
  exact bigSep_congr fun b _ => dT_tile c gD dW b

end Pieces

end Cert.Proof.K

end
-- ==== Proof.Vals.lean ====
/-
  The values the kernel's body forms before and after its loop, as functions of its operands.
-/
module

public import proofs.«01_k».proof.Proof.Blocks
public import Idealize.ShloMosaic.Lib.Pipeline.FrameBody
public import Idealize.ShloMosaic.Lib.VecWindow

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## The values before and after the loop, as functions of the operands -/

section Vals

/-- A load after one copy that filled the whole buffer reads the copied words; -/
theorem readCov_whole {sp : Space} {s : Shape} {e : EltTy} (v : View sig .tc sp s e) (x : s.Idx → Elt F e) (B : LoadRect s) :
    v.readCov [⟨Rect.whole s, x⟩] B = fun j => x (B.idx j) := by
  rw [View.readCov_eq_canon', ← View.read_writes_eq_canon v v.junk _ (fun y => ⟨_, List.mem_singleton_self _, by show y ∈ (Rect.whole s).set; rw [Rect.set_whole]; exact Finset.mem_univ y⟩), View.read_writes_whole]

/-- a load of the buffer's own sizes, all of them. -/
theorem readCov_whole_full {sp : Space} {s : Shape} {e : EltTy} (v : View sig .tc sp s e) (x : s.Idx → Elt F e) {off : Fin s.rank → ℕ}
    (inb : ∀ a, off a + s.size a ≤ s.size a) :
    v.readCov [⟨Rect.whole s, x⟩] (Rect.unit off s.size inb).toLoadRect = x := by
  rw [readCov_whole]
  exact (View.readAt_rep v _ x).symm.trans (View.readAt_rep_full v x inb)

/-- Two stores of 128 rows each cover the 256; -/
theorem rows256_cover (u w) (y : S256x128.Idx) :
    ∃ p ∈ ([⟨Rect.unit (s := S256x128) ![128, 0] S128x128.size inb_S256x128_S128x128_128_0, u⟩,
      ⟨Rect.unit (s := S256x128) ![0, 0] S128x128.size inb_S256x128_S128x128_0_0, w⟩] : List (View.Piece (Elt F) S256x128 .f32)), y ∈ p.1.set := by
  have h0 : (y 0).val < 256 := (y 0).isLt
  have h1 : (y 1).val < 128 := (y 1).isLt
  rcases Nat.lt_or_ge (y 0).val 128 with h | h
  · refine ⟨_, List.mem_cons_of_mem _ (List.mem_singleton_self _), (Rect.mem_set_unit (inb := inb_S256x128_S128x128_0_0)).mpr (Fin.forall_fin_two.mpr ⟨?_, ?_⟩)⟩
    · exact ⟨Nat.zero_le _, by show (y 0).val < 0 + 128; omega⟩
    · exact ⟨Nat.zero_le _, by show (y 1).val < 0 + 128; omega⟩
  · refine ⟨_, List.mem_cons_self, (Rect.mem_set_unit (inb := inb_S256x128_S128x128_128_0)).mpr (Fin.forall_fin_two.mpr ⟨?_, ?_⟩)⟩
    · exact ⟨h, by show (y 0).val < 128 + 128; omega⟩
    · exact ⟨Nat.zero_le _, by show (y 1).val < 0 + 128; omega⟩

/-- two stores of one row each cover the two rows. -/
theorem rows2_cover (u w) (y : S2x128.Idx) :
    ∃ p ∈ ([⟨Rect.unit (s := S2x128) ![1, 0] S1x128.size inb_S2x128_S1x128_1_0, u⟩,
      ⟨Rect.unit (s := S2x128) ![0, 0] S1x128.size inb_S2x128_S1x128_0_0, w⟩] : List (View.Piece (Elt F) S2x128 .f32)), y ∈ p.1.set := by
  have h0 : (y 0).val < 2 := (y 0).isLt
  have h1 : (y 1).val < 128 := (y 1).isLt
  rcases Nat.lt_or_ge (y 0).val 1 with h | h
  · refine ⟨_, List.mem_cons_of_mem _ (List.mem_singleton_self _), (Rect.mem_set_unit (inb := inb_S2x128_S1x128_0_0)).mpr (Fin.forall_fin_two.mpr ⟨?_, ?_⟩)⟩
    · exact ⟨Nat.zero_le _, by show (y 0).val < 0 + 1; omega⟩
    · exact ⟨Nat.zero_le _, by show (y 1).val < 0 + 128; omega⟩
  · refine ⟨_, List.mem_cons_self, (Rect.mem_set_unit (inb := inb_S2x128_S1x128_1_0)).mpr (Fin.forall_fin_two.mpr ⟨?_, ?_⟩)⟩
    · exact ⟨h, by show (y 0).val < 1 + 1; omega⟩
    · exact ⟨Nat.zero_le _, by show (y 1).val < 0 + 128; omega⟩

/-- The activations; -/
def vX (I0 : Vec F S256x2560 .fp8e4m3) : FVec F S256x2560 .bf16 := k0_pay67 (k0_pay66 I0)
/-- the first 128 row scales, and the last; -/
def vS0 (I1 : Vec F S2x128 .f32) : Vec F S1x128 .f32 := fun j => I1 ((Rect.unit (s := S2x128) ![0, 0] S1x128.size inb_S2x128_S1x128_0_0).toLoadRect.idx j)
def vS1 (I1 : Vec F S2x128 .f32) : Vec F S1x128 .f32 := fun j => I1 ((Rect.unit (s := S2x128) ![1, 0] S1x128.size inb_S2x128_S1x128_1_0).toLoadRect.idx j)
/-- the row scales, each along a row of 128; -/
def vS (I1 : Vec F S2x128 .f32) : FVec F S256x128 .f32 :=
  View.canon (Val := Elt F) (e := .f32) [⟨Rect.unit (s := S256x128) ![128, 0] S128x128.size inb_S256x128_S128x128_128_0, k0_pay69 (vS1 I1)⟩,
    ⟨Rect.unit (s := S256x128) ![0, 0] S128x128.size inb_S256x128_S128x128_0_0, k0_pay68 (vS0 I1)⟩]
/-- the first 48 columns of them; -/
def vS48 (I1 : Vec F S2x128 .f32) : Vec F S256x48 .f32 := fun j => vS I1 ((Rect.unit (s := S256x128) ![0, 0] S256x48.size inb_S256x128_S256x48_0_0).toLoadRect.idx j)
/-- the product `x·a`, rounded, -/
def vP (I0 : Vec F S256x2560 .fp8e4m3) (I1 : Vec F S2x128 .f32) (I5 : Vec F S2560x48 .bf16) : FVec F S256x48 .bf16 := k0_pay71 (vX I0) I5 (vS48 I1)
/-- and transposed. -/
def vT (I0 : Vec F S256x2560 .fp8e4m3) (I1 : Vec F S2x128 .f32) (I5 : Vec F S2560x48 .bf16) : FVec F S48x256 .bf16 := k0_pay72 (vX I0) I5 (vS48 I1)
/-- Every row of the accumulated sums of squares, summed: a row of 128 for each half of the rows. -/
def vLoss (L : FVec F S256x128 .f32) : FVec F S2x128 .f32 :=
  View.canon (Val := Elt F) (e := .f32) [⟨Rect.unit (s := S2x128) ![1, 0] S1x128.size inb_S2x128_S1x128_1_0,
      k0_pay80 (fun j => L ((Rect.unit (s := S256x128) ![128, 0] S128x128.size inb_S256x128_S128x128_128_0).toLoadRect.idx j))⟩,
    ⟨Rect.unit (s := S2x128) ![0, 0] S1x128.size inb_S2x128_S1x128_0_0,
      k0_pay79 (k0_pay78 (fun j => L ((Rect.unit (s := S256x128) ![0, 0] S128x128.size inb_S256x128_S128x128_0_0).toLoadRect.idx j)))⟩]

end Vals

/-- A buffer held at contents that read `v` is held at `v`. -/
theorem heldM_rep (c : Dev nD) {sp : Space} {S : Shape} {e : EltTy} (M : Memref sig .tc sp S e) (f : Buf (Elt F) (M.view.loc (c : Thread nD τ)))
    (v : S.Idx → Elt F e) (h : M.view.read (Elt F) f = v) :
    (heldM c M f : sProp 𝕄) ⊢ heldM c M (M.view.rep v) := by
  rw [← h]; exact pointsTo_rep_entails (c : Thread nD τ) M f fullShare

end Cert.Proof.K

end
-- ==== Proof.Body.lean ====
/-
  The kernel's body, run: the small operands come in, the first three tiles are started, the row scales, the product `x·a`
  and its rounding are formed, the loop runs (`loopInv`), and the three small results go out.
-/
module

public import proofs.«01_k».proof.Proof.Vals

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

abbrev bodyG : Prog (TpuEff nD τ sig (Elt F) Λ₀ .tc) PUnit :=
  cc0_lowrank_fit_step (F := F) (Memref.whole main_v0) (Memref.isWhole_whole _) (Memref.whole main_arg1) (Memref.isWhole_whole _) (Memref.whole main_arg2) (Memref.isWhole_whole _) (Memref.whole main_arg3) (Memref.isWhole_whole _) (Memref.whole main_arg4) (Memref.isWhole_whole _) (Memref.whole main_arg5) (Memref.isWhole_whole _) (Memref.whole main_arg6) (Memref.isWhole_whole _) (Memref.whole main_v1_0) (Memref.isWhole_whole _) (Memref.whole main_v1_1) (Memref.isWhole_whole _) (Memref.whole main_v1_2) (Memref.isWhole_whole _) (Memref.whole main_v1_3) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) (Memref.whole cc0_scratch9) (Memref.isWhole_whole _) (Memref.whole cc0_scratch10) (Memref.isWhole_whole _) (Memref.whole cc0_scratch11) (Memref.isWhole_whole _) (Memref.whole cc0_scratch12) (Memref.isWhole_whole _) (Memref.whole cc0_scratch13) (Memref.isWhole_whole _) (Memref.whole cc0_scratch14) (Memref.isWhole_whole _) (Memref.whole cc0_scratch15) (Memref.isWhole_whole _) (Memref.whole cc0_scratch16) (Memref.isWhole_whole _) (Memref.whole cc0_scratch17) (Memref.isWhole_whole _) cc0_scratch18 cc0_scratch19 cc0_scratch20 cc0_scratch21 cc0_scratch22

section Body
variable (c : Dev nD) (XW : Buf (Elt F) (wHbm.view.loc (c : Thread nD τ))) (XC : Buf (Elt F) (cHbm.view.loc (c : Thread nD τ)))
  (gD : Buf (Elt F) (dHbm.view.loc (c : Thread nD τ)))
  (X0 : Buf (Elt F) ((Memref.whole main_v0).view.loc (c : Thread nD τ)))
  (X1 : Buf (Elt F) ((Memref.whole main_arg1).view.loc (c : Thread nD τ)))
  (X4 : Buf (Elt F) ((Memref.whole main_arg4).view.loc (c : Thread nD τ)))
  (X5 : Buf (Elt F) ((Memref.whole main_arg5).view.loc (c : Thread nD τ)))
  (X6 : Buf (Elt F) ((Memref.whole main_arg6).view.loc (c : Thread nD τ)))
  (g7 : Buf (Elt F) ((Memref.whole main_v1_0).view.loc (c : Thread nD τ)))
  (g8 : Buf (Elt F) ((Memref.whole main_v1_1).view.loc (c : Thread nD τ)))
  (g9 : Buf (Elt F) ((Memref.whole main_v1_2).view.loc (c : Thread nD τ)))

/-- A semaphore cell of the pool at zero. -/
abbrev cell0 (n : Fin 18) : sProp 𝕄 := semVal ((c : Thread nD τ), SemLoc.dma n) 0

/-- What the body is handed. -/
abbrev PRE (W : Waits sig Unit) : sProp 𝕄 := iprop(
heldM c (Memref.whole main_v0) X0 ∗ heldM c (Memref.whole main_arg1) X1 ∗ heldM c (Memref.whole main_arg4) X4 ∗ heldM c (Memref.whole main_arg5) X5 ∗ heldM c (Memref.whole main_arg6) X6 ∗ heldM c (Memref.whole main_v1_0) g7 ∗ heldM c (Memref.whole main_v1_1) g8 ∗ heldM c (Memref.whole main_v1_2) g9
  ∗ (wHome c XW 0 ∗ wHome c XW 1 ∗ wHome c XW 2 ∗ bigSep (Ring.rangeSet 20 3 20) (wHome c XW))
  ∗ (cHome c XC 0 ∗ cHome c XC 1 ∗ cHome c XC 2 ∗ bigSep (Ring.rangeSet 20 3 20) (cHome c XC))
  ∗ bigSep Finset.univ (fun b => dHome c b gD)
  ∗ ((∃ f, wHeld c 0 f) ∗ (∃ f, wHeld c 1 f) ∗ (∃ f, wHeld c 2 f) ∗ (∃ f, wHeld c 3 f))
  ∗ ((∃ f, cHeld c 0 f) ∗ (∃ f, cHeld c 1 f) ∗ (∃ f, cHeld c 2 f) ∗ (∃ f, cHeld c 3 f))
  ∗ ((∃ f, dHeld c 0 f) ∗ (∃ f, dHeld c 1 f))
  ∗ ((∃ f, heldM c (Memref.whole cc0_scratch0) f) ∗ (∃ f, heldM c (Memref.whole cc0_scratch1) f) ∗ (∃ f, heldM c (Memref.whole cc0_scratch2) f) ∗ (∃ f, heldM c (Memref.whole cc0_scratch3) f) ∗ (∃ f, heldM c (Memref.whole cc0_scratch4) f) ∗ (∃ f, heldM c (Memref.whole cc0_scratch7) f) ∗ (∃ f, heldM c (Memref.whole cc0_scratch8) f) ∗ (∃ f, heldM c (Memref.whole cc0_scratch9) f) ∗ (∃ f, heldM c (Memref.whole cc0_scratch10) f) ∗ (∃ f, heldM c (Memref.whole cc0_scratch11) f) ∗ (∃ f, heldM c (Memref.whole cc0_scratch12) f) ∗ (∃ f, heldM c (Memref.whole cc0_scratch13) f) ∗ (∃ f, heldM c (Memref.whole cc0_scratch14) f) ∗ (∃ f, heldM c (Memref.whole cc0_scratch15) f) ∗ (∃ f, heldM c (Memref.whole cc0_scratch16) f))
  ∗ (cell0 c 0 ∗ cell0 c 1 ∗ cell0 c 2 ∗ cell0 c 3 ∗ cell0 c 4)
  ∗ (wCell c 0 ∗ wCell c 1 ∗ wCell c 2 ∗ wCell c 3) ∗ (cCell c 0 ∗ cCell c 1 ∗ cCell c 2 ∗ cCell c 3)
  ∗ (dCell c 0 ∗ dCell c 1) ∗ (cell0 c 15 ∗ cell0 c 16 ∗ cell0 c 17)
  ∗ owes (c : Thread nD τ) 0 W)

/-! What the loop reads, from what was copied in. -/
abbrev b3 : Buf (Elt F) ((Memref.whole cc0_scratch3).view.loc (c : Thread nD τ)) := (Memref.whole cc0_scratch3).view.rep ((Memref.whole main_arg6).view.read (Elt F) X6)
abbrev b4 : Buf (Elt F) ((Memref.whole cc0_scratch4).view.loc (c : Thread nD τ)) := (Memref.whole cc0_scratch4).view.rep ((Memref.whole main_arg4).view.read (Elt F) X4)
abbrev b7 : Buf (Elt F) ((Memref.whole cc0_scratch7).view.loc (c : Thread nD τ)) := (Memref.whole cc0_scratch7).view.rep (vX ((Memref.whole main_v0).view.read (Elt F) X0))
abbrev b9 : Buf (Elt F) ((Memref.whole cc0_scratch9).view.loc (c : Thread nD τ)) := (Memref.whole cc0_scratch9).view.rep (vS ((Memref.whole main_arg1).view.read (Elt F) X1))
abbrev b10 : Buf (Elt F) ((Memref.whole cc0_scratch10).view.loc (c : Thread nD τ)) := (Memref.whole cc0_scratch10).view.rep (vP ((Memref.whole main_v0).view.read (Elt F) X0) ((Memref.whole main_arg1).view.read (Elt F) X1) ((Memref.whole main_arg5).view.read (Elt F) X5))
abbrev b11 : Buf (Elt F) ((Memref.whole cc0_scratch11).view.loc (c : Thread nD τ)) := (Memref.whole cc0_scratch11).view.rep (vT ((Memref.whole main_v0).view.read (Elt F) X0) ((Memref.whole main_arg1).view.read (Elt F) X1) ((Memref.whole main_arg5).view.read (Elt F) X5))
abbrev b12 : Buf (Elt F) ((Memref.whole cc0_scratch12).view.loc (c : Thread nD τ)) := ((Memref.whole cc0_scratch12).access (Rect.unit (s := S256x128) ![0, 0] S256x128.size inb_S256x128_S256x128_0_0)).write (Elt F) ((Memref.whole cc0_scratch12).view.writes (Elt F) (Memref.whole cc0_scratch12).view.junk []) k0_pay73 Finset.univ
abbrev b13 : Buf (Elt F) ((Memref.whole cc0_scratch13).view.loc (c : Thread nD τ)) := ((Memref.whole cc0_scratch13).access (Rect.unit (s := S48x256) ![0, 0] S48x256.size inb_S48x256_S48x256_0_0)).write (Elt F) ((Memref.whole cc0_scratch13).view.writes (Elt F) (Memref.whole cc0_scratch13).view.junk []) k0_pay74 Finset.univ

/-- The tiles of the gradient of `b`, of the operands. -/
abbrev outD (b : Fin 20) : FVec F S48x512 .f32 :=
  dOf c XW XC (b3 c X6) (b4 c X4) (b7 c X0) (b9 c X1) (b10 c X0 X1 X5) (b11 c X0 X1 X5) b

/-- The gradient accumulator after the last trip, and the sums of squares; -/
def vG20 : FVec F S48x256 .f32 := ld13 c (gtBuf c XW XC (b3 c X6) (b4 c X4) (b7 c X0) (b9 c X1) (b10 c X0 X1 X5) (b13 c) 20)
def vL20 : FVec F S256x128 .f32 := View.read (Elt F) (Memref.whole cc0_scratch12).view (lossBuf c XW XC (b3 c X6) (b4 c X4) (b7 c X0) (b9 c X1) (b10 c X0 X1 X5) (b12 c) 20)
/-- the four results' values: the first three. -/
abbrev outL : FVec F S2x128 .f32 := vLoss (vL20 c XW XC X0 X1 X4 X5 X6)
abbrev outG : FVec F S256x48 .f32 := k0_pay77 (vG20 c XW XC X0 X1 X4 X5 X6)
abbrev outA : FVec F S2560x48 .f32 := k0_pay76 (vG20 c XW XC X0 X1 X4 X5 X6) (vS0 ((Memref.whole main_arg1).view.read (Elt F) X1)) (vS1 ((Memref.whole main_arg1).view.read (Elt F) X1)) (vX ((Memref.whole main_v0).view.read (Elt F) X0))

/-- What the body gives back. -/
abbrev POST : sProp 𝕄 := iprop(
heldM c (Memref.whole main_v0) X0 ∗ heldM c (Memref.whole main_arg1) X1 ∗ heldM c (Memref.whole main_arg4) X4 ∗ heldM c (Memref.whole main_arg5) X5 ∗ heldM c (Memref.whole main_arg6) X6
  ∗ heldM c (Memref.whole main_v1_0) ((Memref.whole main_v1_0).view.rep (outL c XW XC X0 X1 X4 X5 X6))
  ∗ heldM c (Memref.whole main_v1_1) ((Memref.whole main_v1_1).view.rep (outG c XW XC X0 X1 X4 X5 X6))
  ∗ heldM c (Memref.whole main_v1_2) ((Memref.whole main_v1_2).view.rep (outA c XW XC X0 X1 X4 X5 X6))
  ∗ bigSep Finset.univ (wHome c XW) ∗ bigSep Finset.univ (cHome c XC) ∗ bigSep Finset.univ (fun b => dHome c b (dOut c gD (outD c XW XC X0 X1 X4 X5 X6) b))
  ∗ ((∃ f, wHeld c 0 f) ∗ (∃ f, wHeld c 1 f) ∗ (∃ f, wHeld c 2 f) ∗ (∃ f, wHeld c 3 f))
  ∗ ((∃ f, cHeld c 0 f) ∗ (∃ f, cHeld c 1 f) ∗ (∃ f, cHeld c 2 f) ∗ (∃ f, cHeld c 3 f))
  ∗ ((∃ f, dHeld c 0 f) ∗ (∃ f, dHeld c 1 f))
  ∗ ((∃ f, heldM c (Memref.whole cc0_scratch0) f) ∗ (∃ f, heldM c (Memref.whole cc0_scratch1) f) ∗ (∃ f, heldM c (Memref.whole cc0_scratch2) f) ∗ (∃ f, heldM c (Memref.whole cc0_scratch3) f) ∗ (∃ f, heldM c (Memref.whole cc0_scratch4) f) ∗ (∃ f, heldM c (Memref.whole cc0_scratch7) f) ∗ (∃ f, heldM c (Memref.whole cc0_scratch8) f) ∗ (∃ f, heldM c (Memref.whole cc0_scratch9) f) ∗ (∃ f, heldM c (Memref.whole cc0_scratch10) f) ∗ (∃ f, heldM c (Memref.whole cc0_scratch11) f) ∗ (∃ f, heldM c (Memref.whole cc0_scratch12) f) ∗ (∃ f, heldM c (Memref.whole cc0_scratch13) f) ∗ (∃ f, heldM c (Memref.whole cc0_scratch14) f) ∗ (∃ f, heldM c (Memref.whole cc0_scratch15) f) ∗ (∃ f, heldM c (Memref.whole cc0_scratch16) f))
  ∗ (cell0 c 0 ∗ cell0 c 1 ∗ cell0 c 2 ∗ cell0 c 3 ∗ cell0 c 4)
  ∗ (wCell c 0 ∗ wCell c 1 ∗ wCell c 2 ∗ wCell c 3) ∗ (cCell c 0 ∗ cCell c 1 ∗ cCell c 2 ∗ cCell c 3)
  ∗ (dCell c 0 ∗ dCell c 1) ∗ (cell0 c 15 ∗ cell0 c 16 ∗ cell0 c 17)
  ∗ ∃ W, owes (c : Thread nD τ) 0 W)

/-- The tiles written before the last two, and the last two, are all the tiles. -/
theorem tiles_all (Φ : Fin 20 → sProp 𝕄) : iprop(Φ 18 ∗ Φ 19 ∗ bigSep (Ring.rangeSet 20 0 18) Φ) ⊢ bigSep Finset.univ Φ := by
  have e : (Finset.univ : Finset (Fin 20)) = insert 18 (insert 19 (Ring.rangeSet 20 0 18)) := by decide
  rw [e, bigSep_ins Φ (by decide), bigSep_ins Φ (by decide)]

set_option maxHeartbeats 4000000 in
set_option format.width 3000 in
set_option maxRecDepth 8192 in
/-- THE BODY, from `PRE` to `POST`. -/
theorem bodyRun (W : Waits sig Unit) (Q : PUnit → sProp 𝕄) :
    iprop(PRE c XW XC gD X0 X1 X4 X5 X6 g7 g8 g9 W ∗ (POST c XW XC gD X0 X1 X4 X5 X6 -∗ Q ⟨⟩))
      ⊢ wp frame (wpE (defs₀ (F := F)) 𝒱₀ (c : Thread nD τ) none) Set.univ bodyG Q := by
  iintro ⟨⟨HX0, HX1, HX4, HX5, HX6, HG7, HG8, HG9, ⟨HW0, HW1, HW2, HWR⟩, ⟨HC0, HC1, HC2, HCR⟩, HD, ⟨⟨%w0, HSW0⟩, ⟨%w1, HSW1⟩, ⟨%w2, HSW2⟩, HSW3⟩, ⟨⟨%c0, HSC0⟩, ⟨%c1, HSC1⟩, ⟨%c2, HSC2⟩, HSC3⟩, ⟨HSD0, HSD1⟩, ⟨⟨%f0, HF0⟩, ⟨%f1, HF1⟩, ⟨%f2, HF2⟩, ⟨%f3, HF3⟩, ⟨%f4, HF4⟩, ⟨%f7, HF7⟩, ⟨%f8, HF8⟩, ⟨%f9, HF9⟩, ⟨%f10, HF10⟩, ⟨%f11, HF11⟩, ⟨%f12, HF12⟩, ⟨%f13, HF13⟩, ⟨%f14, HF14⟩, ⟨%f15, HF15⟩, ⟨%f16, HF16⟩⟩, ⟨HI0, HI1, HI2, HI3, HI4⟩, ⟨HMW0, HMW1, HMW2, HMW3⟩, ⟨HMC0, HMC1, HMC2, HMC3⟩, ⟨HMD0, HMD1⟩, ⟨HO0, HO1, HO2⟩, HO⟩, Hk⟩
  dsimp only [bodyG]
  set_option sl_exec.stopBefore "k0_part16" in sl_exec
  -- what the buffers hold, as functions of the operands
  have e53 : bodyRun.sl.v53 c X0 = ((Memref.whole main_v0).view.read (Elt F) X0) := by
    unfold bodyRun.sl.v53
    exact readCov_whole_full (s := S256x2560) (Memref.whole cc0_scratch0).view ((Memref.whole main_v0).view.read (Elt F) X0) inb_S256x2560_S256x2560_0_0
  have e7 : k0_pay67 (bodyRun.sl.r c X0) = vX ((Memref.whole main_v0).view.read (Elt F) X0) := by
    unfold bodyRun.sl.r vX
    rw [e53]
  have e72 : bodyRun.sl.v72 c X0 = vX ((Memref.whole main_v0).view.read (Elt F) X0) := by
    unfold bodyRun.sl.v72 bodyRun.sl.HF7_1
    rw [e7]
    exact View.readCov_cons_toLoadRect _ _ _ _
  have e73 : bodyRun.sl.v73 c X5 = ((Memref.whole main_arg5).view.read (Elt F) X5) := by
    unfold bodyRun.sl.v73
    exact readCov_whole_full (s := S2560x48) (Memref.whole cc0_scratch2).view ((Memref.whole main_arg5).view.read (Elt F) X5) inb_S2560x48_S2560x48_0_0
  have e58 : bodyRun.sl.v58 c X1 = vS0 ((Memref.whole main_arg1).view.read (Elt F) X1) := by
    dsimp only [bodyRun.sl.v58]
    rw [readCov_whole]; rfl
  have e65 : bodyRun.sl.v65 c X1 = vS1 ((Memref.whole main_arg1).view.read (Elt F) X1) := by
    dsimp only [bodyRun.sl.v65]
    rw [readCov_whole]; rfl
  have e9 : View.canon (bodyRun.sl.HF9_2 c X1) = vS ((Memref.whole main_arg1).view.read (Elt F) X1) := by
    unfold bodyRun.sl.HF9_2 vS; rw [e58, e65]
  have e75 : bodyRun.sl.v75 c X1 = vS48 ((Memref.whole main_arg1).view.read (Elt F) X1) := by
    unfold bodyRun.sl.v75 vS48
    rw [View.readCov_eq_canon', e9]; rfl
  have h7 : (Memref.whole cc0_scratch7).view.read (Elt F) ((Memref.whole cc0_scratch7).view.writes (Elt F) f7 (bodyRun.sl.HF7_1 c X0)) = vX ((Memref.whole main_v0).view.read (Elt F) X0) := by
    unfold bodyRun.sl.HF7_1
    rw [e7]
    exact View.read_writes_full (s := S256x2560) (Memref.whole cc0_scratch7).view f7 inb_S256x2560_S256x2560_0_0 _ []
  have h9 : (Memref.whole cc0_scratch9).view.read (Elt F) ((Memref.whole cc0_scratch9).view.writes (Elt F) f9 (bodyRun.sl.HF9_2 c X1)) = vS ((Memref.whole main_arg1).view.read (Elt F) X1) := by
    refine (View.read_writes_eq_canon _ _ _ ?_).trans e9
    unfold bodyRun.sl.HF9_2
    exact rows256_cover _ _
  rw [e72, e73, e75]
  ihave HF3 := (heldM_rep c (Memref.whole cc0_scratch3) _ ((Memref.whole main_arg6).view.read (Elt F) X6) (View.read_writes_whole _ _ _)) $$ [HF3]
  · iexact HF3
  ihave HF4 := (heldM_rep c (Memref.whole cc0_scratch4) _ ((Memref.whole main_arg4).view.read (Elt F) X4) (View.read_writes_whole _ _ _)) $$ [HF4]
  · iexact HF4
  ihave HF7 := (heldM_rep c (Memref.whole cc0_scratch7) _ _ h7) $$ [HF7]
  · iexact HF7
  ihave HF9 := (heldM_rep c (Memref.whole cc0_scratch9) _ _ h9) $$ [HF9]
  · iexact HF9
  ihave HF10 := (heldM_rep c (Memref.whole cc0_scratch10) ((Memref.whole cc0_scratch10).view.writes (Elt F) f10 [⟨Rect.unit (s := S256x48) ![0, 0] S256x48.size inb_S256x48_S256x48_0_0, vP ((Memref.whole main_v0).view.read (Elt F) X0) ((Memref.whole main_arg1).view.read (Elt F) X1) ((Memref.whole main_arg5).view.read (Elt F) X5)⟩]) (vP ((Memref.whole main_v0).view.read (Elt F) X0) ((Memref.whole main_arg1).view.read (Elt F) X1) ((Memref.whole main_arg5).view.read (Elt F) X5))
    (View.read_writes_full (s := S256x48) (Memref.whole cc0_scratch10).view f10 inb_S256x48_S256x48_0_0 _ [])) $$ [HF10]
  · iexact HF10
  ihave HF11 := (heldM_rep c (Memref.whole cc0_scratch11) ((Memref.whole cc0_scratch11).view.writes (Elt F) f11 [⟨Rect.unit (s := S48x256) ![0, 0] S48x256.size inb_S48x256_S48x256_0_0, vT ((Memref.whole main_v0).view.read (Elt F) X0) ((Memref.whole main_arg1).view.read (Elt F) X1) ((Memref.whole main_arg5).view.read (Elt F) X5)⟩]) (vT ((Memref.whole main_v0).view.read (Elt F) X0) ((Memref.whole main_arg1).view.read (Elt F) X1) ((Memref.whole main_arg5).view.read (Elt F) X5))
    (View.read_writes_full (s := S48x256) (Memref.whole cc0_scratch11).view f11 inb_S48x256_S48x256_0_0 _ [])) $$ [HF11]
  · iexact HF11
  -- the rings before trip 0
  ihave HR := (show iprop(wRing c XW 0 ∗ cRing c XC 0 ∗ dRing c gD (outD c XW XC X0 X1 X4 X5 X6) 0) ⊢ rings c XW XC gD (outD c XW XC X0 X1 X4 X5 X6) 0 from entails_of_eq (rings_eq ..).symm) $$ [HMW0 HMW1 HMW2 HSW3 HMW3 HWR HMC0 HMC1 HMC2 HSC3 HMC3 HCR HSD0 HSD1 HMD0 HMD1 HD]
  · isplitl [HMW0 HMW1 HMW2 HSW3 HMW3 HWR]
    · iapply (ring4_start _ _ _)
      isplitl [HMW0]; · iexists w0; iexact HMW0
      isplitl [HMW1]; · iexists w1; iexact HMW1
      isplitl [HMW2]; · iexists w2; iexact HMW2
      isplitl [HSW3 HMW3]
      · isplitl [HSW3]; · iexact HSW3
        iexact HMW3
      iexact HWR
    isplitl [HMC0 HMC1 HMC2 HSC3 HMC3 HCR]
    · iapply (ring4_start _ _ _)
      isplitl [HMC0]; · iexists c0; iexact HMC0
      isplitl [HMC1]; · iexists c1; iexact HMC1
      isplitl [HMC2]; · iexists c2; iexact HMC2
      isplitl [HSC3 HMC3]
      · isplitl [HSC3]; · iexact HSC3
        iexact HMC3
      iexact HCR
    iapply (ring2_start _ _ _ _)
    isplitl [HSD0 HMD0]
    · isplitl [HSD0]; · iexact HSD0
      iexact HMD0
    isplitl [HSD1 HMD1]
    · isplitl [HSD1]; · iexact HSD1
      iexact HMD1
    iexact HD
  let L := loopInv c XW XC gD (b3 c X6) (b4 c X4) (b7 c X0) (b9 c X1) (b10 c X0 X1 X5) (b11 c X0 X1 X5) (b12 c) (b13 c) (k0_pay73 (F := F))
  set_option sl_exec.stopBefore "k0_part17" in sl_exec
  have ht : Scf.trips k0_t1_loop.lb k0_t1_loop.ub k0_t1_loop.st = 20 := trips_eq
  -- the rings after the last trip
  ihave HR := (show rings c XW XC gD (outD c XW XC X0 X1 X4 X5 X6) (Scf.trips k0_t1_loop.lb k0_t1_loop.ub k0_t1_loop.st)
      ⊢ iprop(wRing c XW 20 ∗ cRing c XC 20 ∗ dRing c gD (outD c XW XC X0 X1 X4 X5 X6) 20) from by rw [ht]; exact entails_of_eq (rings_eq ..)) $$ [HR]
  · iexact HR
  icases HR with ⟨HRW, HRC, HRD⟩
  ihave HRW := (ring4_end _ _ _) $$ [HRW]
  · iexact HRW
  ihave HRC := (ring4_end _ _ _) $$ [HRC]
  · iexact HRC
  ihave HRD := (ring2_end _ _ _ _) $$ [HRD]
  · iexact HRD
  icases HRW with ⟨HKW0, HKW1, HKW2, HKW3, HWR⟩
  icases HRC with ⟨HKC0, HKC1, HKC2, HKC3, HCR⟩
  icases HRD with ⟨⟨%d0, HMD0⟩, ⟨%d1, HMD1⟩, HDR⟩
  sl_exec
  have ev95 : bodyRun.sl.v95 c XW XC X0 X1 X4 X5 X6 = vG20 c XW XC X0 X1 X4 X5 X6 := by
    unfold bodyRun.sl.v95 vG20; rw [ht]
  have ev102 : bodyRun.sl.v102 c X0 = vX ((Memref.whole main_v0).view.read (Elt F) X0) := by
    unfold bodyRun.sl.v102
    rw [View.readAt_rep]
    exact funext fun y => congrArg (vX ((Memref.whole main_v0).view.read (Elt F) X0)) (funext fun a => Fin.ext (by
      show (![0, 0] : Fin 2 → ℕ) a + 1 * (y a).val = (y a).val
      fin_cases a <;> simp))
  have r9 : (Memref.whole main_v1_2).view.read (Elt F) ((Memref.whole main_v1_2).view.writes (Elt F) g9 [⟨Rect.whole main_v1_2.ty.shape, bodyRun.sl.dma4 c XW XC X0 X1 X4 X5 X6 f16⟩]) = outA c XW XC X0 X1 X4 X5 X6 := by
    refine (View.read_writes_whole _ _ _).trans ?_
    unfold bodyRun.sl.dma4
    rw [ev95, ev102]
    exact View.read_writes_full (s := S2560x48) (Memref.whole cc0_scratch16).view f16 inb_S2560x48_S2560x48_0_0 _ []
  have r8 : (Memref.whole main_v1_1).view.read (Elt F) ((Memref.whole main_v1_1).view.writes (Elt F) g8 [⟨Rect.whole main_v1_1.ty.shape, bodyRun.sl.dma4_1 c XW XC X0 X1 X4 X5 X6 f15⟩]) = outG c XW XC X0 X1 X4 X5 X6 := by
    refine (View.read_writes_whole _ _ _).trans ?_
    unfold bodyRun.sl.dma4_1
    rw [ev95]
    exact View.read_writes_full (s := S256x48) (Memref.whole cc0_scratch15).view f15 inb_S256x48_S256x48_0_0 _ []
  have ev121 : bodyRun.sl.v121 c XW XC X0 X1 X4 X5 X6 = fun j => vL20 c XW XC X0 X1 X4 X5 X6 ((Rect.unit (s := S256x128) ![128, 0] S128x128.size inb_S256x128_S128x128_128_0).toLoadRect.idx j) := by
    unfold bodyRun.sl.v121 vL20; rw [ht]; rfl
  have ev114 : bodyRun.sl.v114 c XW XC X0 X1 X4 X5 X6 = fun j => vL20 c XW XC X0 X1 X4 X5 X6 ((Rect.unit (s := S256x128) ![0, 0] S128x128.size inb_S256x128_S128x128_0_0).toLoadRect.idx j) := by
    unfold bodyRun.sl.v114 vL20; rw [ht]; rfl
  have e14 : View.canon (bodyRun.sl.HF14_2 c XW XC X0 X1 X4 X5 X6) = outL c XW XC X0 X1 X4 X5 X6 := by
    unfold bodyRun.sl.HF14_2 bodyRun.sl.r_1 outL vLoss
    rw [ev121, ev114]; rfl
  have r7 : (Memref.whole main_v1_0).view.read (Elt F) ((Memref.whole main_v1_0).view.writes (Elt F) g7 [⟨Rect.whole main_v1_0.ty.shape, bodyRun.sl.dma4_2 c XW XC X0 X1 X4 X5 X6 f14⟩]) = outL c XW XC X0 X1 X4 X5 X6 := by
    refine (View.read_writes_whole _ _ _).trans ?_
    unfold bodyRun.sl.dma4_2
    refine (View.read_writes_eq_canon _ _ _ ?_).trans e14
    unfold bodyRun.sl.HF14_2
    exact rows2_cover _ _
  ihave HG7 := (heldM_rep c (Memref.whole main_v1_0) _ _ r7) $$ [HG7]
  · iexact HG7
  ihave HG8 := (heldM_rep c (Memref.whole main_v1_1) _ _ r8) $$ [HG8]
  · iexact HG8
  ihave HG9 := (heldM_rep c (Memref.whole main_v1_2) _ _ r9) $$ [HG9]
  · iexact HG9
  icases HKW0 with ⟨HSW0, HMW0⟩
  icases HKW1 with ⟨HSW1, HMW1⟩
  icases HKW2 with ⟨HSW2, HMW2⟩
  icases HKW3 with ⟨HSW3, HMW3⟩
  icases HKC0 with ⟨HSC0, HMC0⟩
  icases HKC1 with ⟨HSC1, HMC1⟩
  icases HKC2 with ⟨HSC2, HMC2⟩
  icases HKC3 with ⟨HSC3, HMC3⟩
  sl_step
  iapply Hk
  isplitl [HX0]; · iexact HX0
  isplitl [HX1]; · iexact HX1
  isplitl [HX4]; · iexact HX4
  isplitl [HX5]; · iexact HX5
  isplitl [HX6]; · iexact HX6
  isplitl [HG7]; · iexact HG7
  isplitl [HG8]; · iexact HG8
  isplitl [HG9]; · iexact HG9
  isplitl [HWR]; · iexact HWR
  isplitl [HCR]; · iexact HCR
  isplitl [HMD0_dst HMD1_dst HDR]
  · iapply (tiles_all (fun b => dHome c b (dOut c gD (outD c XW XC X0 X1 X4 X5 X6) b)))
    isplitl [HMD0_dst]; · iexact HMD0_dst
    isplitl [HMD1_dst]; · iexact HMD1_dst
    iexact HDR
  isplitl [HSW0 HSW1 HSW2 HSW3]
  · isplitl [HSW0]; · iexact HSW0
    isplitl [HSW1]; · iexact HSW1
    isplitl [HSW2]; · iexact HSW2
    iexact HSW3
  isplitl [HSC0 HSC1 HSC2 HSC3]
  · isplitl [HSC0]; · iexact HSC0
    isplitl [HSC1]; · iexact HSC1
    isplitl [HSC2]; · iexact HSC2
    iexact HSC3
  isplitl [HMD0_src HMD1_src]
  · isplitl [HMD0_src]; · iexists _; iexact HMD0_src
    iexists _; iexact HMD1_src
  isplitl [HF0 HF1 HF2 HF3 HF4 HF7 HF8 HF9 HF10 HF11 HF12 HF13 HF14 HF15 HF16]
  · isplitl [HF0]; · iexists _; iexact HF0
    isplitl [HF1]; · iexists _; iexact HF1
    isplitl [HF2]; · iexists _; iexact HF2
    isplitl [HF3]; · iexists _; iexact HF3
    isplitl [HF4]; · iexists _; iexact HF4
    isplitl [HF7]; · iexists _; iexact HF7
    isplitl [HF8]; · iexists _; iexact HF8
    isplitl [HF9]; · iexists _; iexact HF9
    isplitl [HF10]; · iexists _; iexact HF10
    isplitl [HF11]; · iexists _; iexact HF11
    isplitl [HF12]; · iexists _; iexact HF12
    isplitl [HF13]; · iexists _; iexact HF13
    isplitl [HF14]; · iexists _; iexact HF14
    isplitl [HF15]; · iexists _; iexact HF15
    iexists _; iexact HF16
  isplitl [HI0 HI1 HI2 HI3 HI4]
  · isplitl [HI0]; · iexact HI0
    isplitl [HI1]; · iexact HI1
    isplitl [HI2]; · iexact HI2
    isplitl [HI3]; · iexact HI3
    iexact HI4
  isplitl [HMW0 HMW1 HMW2 HMW3]
  · isplitl [HMW0]; · iexact HMW0
    isplitl [HMW1]; · iexact HMW1
    isplitl [HMW2]; · iexact HMW2
    iexact HMW3
  isplitl [HMC0 HMC1 HMC2 HMC3]
  · isplitl [HMC0]; · iexact HMC0
    isplitl [HMC1]; · iexact HMC1
    isplitl [HMC2]; · iexact HMC2
    iexact HMC3
  isplitl [HMD0 HMD1]
  · isplitl [HMD0]; · iexact HMD0
    iexact HMD1
  isplitl [HO0 HO1 HO2]
  · isplitl [HO0]; · iexact HO0
    isplitl [HO1]; · iexact HO1
    iexact HO2
  iexists _; iexact HO

end Body

end Cert.Proof.K

end
-- ==== Proof.Launch.lean ====
/-
  The launch: the program around the body. The host reshapes the codes of `x` and calls the kernel, which runs once with every
  array left in HBM. This module turns what the launch hands over (whole arrays, whole buffers, the semaphores) into what
  the body is handed (`PRE`), and back; and concludes that the program ends with its arguments unchanged, its semaphores at
  zero, and its four results at the values the body writes.
-/
module

public import proofs.«01_k».proof.Proof.Body

@[expose] public section

noncomputable section

namespace Cert.Proof.K

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-! ## Small conversions -/

/-- A buffer held through its whole view is the buffer. -/
theorem heldM_whole (c : Dev nD) (b : Ref sig .tc) (f : Buf (Elt F) ((c : Thread nD τ).loc b)) :
    (heldM c (Memref.whole b) f : sProp 𝕄) = (((c : Thread nD τ).loc b) ↦{fullShare} f : sProp 𝕄) := by
  unfold heldM; rw [View.set_whole]
/-- Tiles 0, 1, 2 and the others are all the tiles. -/
theorem tiles_front (Φ : Fin 20 → sProp 𝕄) : bigSep Finset.univ Φ = iprop(Φ 0 ∗ Φ 1 ∗ Φ 2 ∗ bigSep (Ring.rangeSet 20 3 20) Φ) := by
  have e : (Finset.univ : Finset (Fin 20)) = insert 0 (insert 1 (insert 2 (Ring.rangeSet 20 3 20))) := by decide
  rw [e, bigSep_ins Φ (by decide), bigSep_ins Φ (by decide), bigSep_ins Φ (by decide)]
theorem four (Φ : Fin 4 → sProp 𝕄) : bigSep Finset.univ Φ = iprop(Φ 0 ∗ Φ 1 ∗ Φ 2 ∗ Φ 3) := by
  rw [BI.bigSep_eq_bigSepL_of_eq [0, 1, 2, 3] (by decide) (by decide)]; rfl
theorem two (Φ : Fin 2 → sProp 𝕄) : bigSep Finset.univ Φ = iprop(Φ 0 ∗ Φ 1) := by
  rw [BI.bigSep_eq_bigSepL_of_eq [0, 1] (by decide) (by decide)]; rfl

/-! ## The launch's buffers and semaphores -/

variable (m : (ℓ : Loc nD τ sig) → Buf (Elt F) ℓ) (ρ : Dev nD → PrngReg)

/-- The arrays the kernel reads, -/
def H0 : Finset (Ref sig .tc) := {main_v0, main_arg1, main_arg2, main_arg3, main_arg4, main_arg5, main_arg6}
/-- and the results it writes. -/
def R0 : Finset (Ref sig .tc) := {main_v1_0, main_v1_1, main_v1_2, main_v1_3}
theorem H0_sub : H0 ⊆ Pipeline.restRefs sig cfg0.spec := by decide
theorem R0_sub : R0 ⊆ Pipeline.restRefs sig cfg0.spec \ H0 := by decide
/-- The kernel's 18 semaphores. -/
abbrev osem0 : Fin 18 → SemLoc sig := fun s => .dma s
theorem ownSemFacts0 : Pipeline.OwnSemFacts cfg0.spec osem0 := by decide

/-- The results' contents at the end: the value of each, as the body leaves it. -/
def outF0 (c : Dev nD) : Buf (Elt F) ((c : Thread nD τ).loc main_v1_0) := (Memref.whole main_v1_0).view.rep (outL c (V m c main_arg2) (V m c main_arg3) (V m c main_v0) (V m c main_arg1) (V m c main_arg4) (V m c main_arg5) (V m c main_arg6))
def outF1 (c : Dev nD) : Buf (Elt F) ((c : Thread nD τ).loc main_v1_1) := (Memref.whole main_v1_1).view.rep (outG c (V m c main_arg2) (V m c main_arg3) (V m c main_v0) (V m c main_arg1) (V m c main_arg4) (V m c main_arg5) (V m c main_arg6))
def outF2 (c : Dev nD) : Buf (Elt F) ((c : Thread nD τ).loc main_v1_2) := (Memref.whole main_v1_2).view.rep (outA c (V m c main_arg2) (V m c main_arg3) (V m c main_v0) (V m c main_arg1) (V m c main_arg4) (V m c main_arg5) (V m c main_arg6))
def outF3 (c : Dev nD) : Buf (Elt F) ((c : Thread nD τ).loc main_v1_3) := dFull c (V m c main_v1_3) (outD c (V m c main_arg2) (V m c main_arg3) (V m c main_v0) (V m c main_arg1) (V m c main_arg4) (V m c main_arg5) (V m c main_arg6))
/-- Every buffer's contents at the end. -/
def G (c : Dev nD) (b : Ref sig .tc) : Buf (Elt F) ((c : Thread nD τ).loc b) :=
  if h : b = main_v1_0 then h ▸ outF0 m c else if h : b = main_v1_1 then h ▸ outF1 m c
  else if h : b = main_v1_2 then h ▸ outF2 m c else if h : b = main_v1_3 then h ▸ outF3 m c else V m c b
theorem G_0 (c : Dev nD) : G m c main_v1_0 = outF0 m c := by
  unfold G; rw [dif_pos rfl]
theorem G_1 (c : Dev nD) : G m c main_v1_1 = outF1 m c := by
  unfold G; rw [dif_neg (by decide), dif_pos rfl]
theorem G_2 (c : Dev nD) : G m c main_v1_2 = outF2 m c := by
  unfold G; rw [dif_neg (by decide), dif_neg (by decide), dif_pos rfl]
theorem G_3 (c : Dev nD) : G m c main_v1_3 = outF3 m c := by
  unfold G; rw [dif_neg (by decide), dif_neg (by decide), dif_neg (by decide), dif_pos rfl]

theorem ownSems00_eq (c : Dev nD) :
    (Pipeline.ownSems0 (Ix := Unit) (Name := ℕ) (U := Pipeline.UD sig nD τ) (Lvl := ℕ) (Val := Elt F) (τ := τ) osem0 c : sProp 𝕄)
      = iprop(cell0 c 0 ∗ cell0 c 1 ∗ cell0 c 2 ∗ cell0 c 3 ∗ cell0 c 4 ∗ cell0 c 5 ∗ cell0 c 6 ∗ cell0 c 7 ∗ cell0 c 8 ∗ cell0 c 9 ∗ cell0 c 10 ∗ cell0 c 11 ∗ cell0 c 12 ∗ cell0 c 13 ∗ cell0 c 14 ∗ cell0 c 15 ∗ cell0 c 16 ∗ cell0 c 17) := by
  rw [Pipeline.ownSems0_eq_of_list c osem0 [0, 1, 2, 3, 4, 5, 6, 7, 8, 9, 10, 11, 12, 13, 14, 15, 16, 17] (by decide) (by decide)]; rfl
theorem hbmPts0_eq (c : Dev nD) (W : (b : Ref sig .tc) → Buf (Elt F) ((c : Thread nD τ).loc b)) :
    (bigSep H0 (fun b => ((c : Thread nD τ).loc b) ↦{fullShare} W b) : sProp 𝕄)
      = iprop((((c : Thread nD τ).loc main_v0) ↦{fullShare} W main_v0) ∗ (((c : Thread nD τ).loc main_arg1) ↦{fullShare} W main_arg1) ∗ (((c : Thread nD τ).loc main_arg2) ↦{fullShare} W main_arg2) ∗ (((c : Thread nD τ).loc main_arg3) ↦{fullShare} W main_arg3) ∗ (((c : Thread nD τ).loc main_arg4) ↦{fullShare} W main_arg4) ∗ (((c : Thread nD τ).loc main_arg5) ↦{fullShare} W main_arg5) ∗ (((c : Thread nD τ).loc main_arg6) ↦{fullShare} W main_arg6)) := by
  rw [BI.bigSep_eq_bigSepL_of_eq [main_v0, main_arg1, main_arg2, main_arg3, main_arg4, main_arg5, main_arg6] (by decide) (by decide)]; rfl
theorem routed0_eq (c : Dev nD) (W : (b : Ref sig .tc) → Buf (Elt F) ((c : Thread nD τ).loc b)) :
    (Pipeline.routed R0 c W : sProp 𝕄)
      = iprop((((c : Thread nD τ).loc main_v1_0) ↦{fullShare} W main_v1_0) ∗ (((c : Thread nD τ).loc main_v1_1) ↦{fullShare} W main_v1_1) ∗ (((c : Thread nD τ).loc main_v1_2) ↦{fullShare} W main_v1_2) ∗ (((c : Thread nD τ).loc main_v1_3) ↦{fullShare} W main_v1_3)) := by
  unfold Pipeline.routed; rw [BI.bigSep_eq_bigSepL_of_eq [main_v1_0, main_v1_1, main_v1_2, main_v1_3] (by decide) (by decide)]; rfl

/-- What the region is entered with (`W` the launch contents) and left with (`W` the final ones). -/
abbrev PHI (W : (c : Dev nD) → (b : Ref sig .tc) → Buf (Elt F) ((c : Thread nD τ).loc b)) (c : Dev nD) : sProp 𝕄 :=
  Pipeline.ΦDRG osem0 cfg0.spec H0 R0 (V m) W c

/-- The body's entry, at the launch contents. -/
abbrev PRE0 (c : Dev nD) (W : Waits sig Unit) : sProp 𝕄 :=
  PRE c (V m c main_arg2) (V m c main_arg3) (V m c main_v1_3) (V m c main_v0) (V m c main_arg1) (V m c main_arg4) (V m c main_arg5) (V m c main_arg6) (V m c main_v1_0) (V m c main_v1_1) (V m c main_v1_2) W
/-- The body's exit, at the launch contents. -/
abbrev POST0 (c : Dev nD) : sProp 𝕄 :=
  POST c (V m c main_arg2) (V m c main_arg3) (V m c main_v1_3) (V m c main_v0) (V m c main_arg1) (V m c main_arg4) (V m c main_arg5) (V m c main_arg6)

set_option maxHeartbeats 4000000 in
/-- IN: what the region is entered with is what the body is handed. -/
theorem phi_in (c : Dev nD) (W : Waits sig Unit) : iprop(PHI m (V m) c ∗ owes (c : Thread nD τ) 0 W) ⊢ iprop(PRE0 m c W ∗ ∃ r, prngReg c r) := by
  unfold PHI PRE0 PRE
  rw [Pipeline.ΦDRG_eq, scopedRest0_eq, ownSems00_eq, hbmPts0_eq, routed0_eq]
  iintro ⟨⟨⟨HF0, HF1, HF2, HF3, HF4, HF5, HF6, HF7, HF8, HF9, HF10, HF11, HF12, HF13, HF14, HF15, HF16, HF17⟩, Hp, ⟨HM0, HM1, HM2, HM3, HM4, HM5, HM6, HM7, HM8, HM9, HM10, HM11, HM12, HM13, HM14, HM15, HM16, HM17⟩, ⟨HX0, HX1, HX2, HX3, HX4, HX5, HX6⟩, ⟨HG0, HG1, HG2, HG3⟩⟩, HO⟩
  icases HF5 with ⟨%f5, HF5⟩
  icases HF6 with ⟨%f6, HF6⟩
  icases HF17 with ⟨%f17, HF17⟩
  ihave HF5 := (entails_of_eq ((wS_whole c f5).trans (four _))) $$ HF5
  ihave HF6 := (entails_of_eq ((cS_whole c f6).trans (four _))) $$ HF6
  ihave HF17 := (entails_of_eq ((dS_whole c f17).trans (two _))) $$ HF17
  icases HF5 with ⟨HW0, HW1, HW2, HW3⟩
  icases HF6 with ⟨HC0, HC1, HC2, HC3⟩
  icases HF17 with ⟨HD0, HD1⟩
  ihave HX2 := (entails_of_eq ((wT_whole c (V m c main_arg2)).trans (tiles_front _))) $$ HX2
  ihave HX3 := (entails_of_eq ((cT_whole c (V m c main_arg3)).trans (tiles_front _))) $$ HX3
  ihave HG3 := (entails_of_eq (dT_whole c (V m c main_v1_3))) $$ HG3
  isplitr [Hp]
  swap; · iexact Hp
  isplitl [HX0]; · iapply (entails_of_eq (heldM_whole c _ _).symm); iexact HX0
  isplitl [HX1]; · iapply (entails_of_eq (heldM_whole c _ _).symm); iexact HX1
  isplitl [HX4]; · iapply (entails_of_eq (heldM_whole c _ _).symm); iexact HX4
  isplitl [HX5]; · iapply (entails_of_eq (heldM_whole c _ _).symm); iexact HX5
  isplitl [HX6]; · iapply (entails_of_eq (heldM_whole c _ _).symm); iexact HX6
  isplitl [HG0]; · iapply (entails_of_eq (heldM_whole c _ _).symm); iexact HG0
  isplitl [HG1]; · iapply (entails_of_eq (heldM_whole c _ _).symm); iexact HG1
  isplitl [HG2]; · iapply (entails_of_eq (heldM_whole c _ _).symm); iexact HG2
  isplitl [HX2]; · iexact HX2
  isplitl [HX3]; · iexact HX3
  isplitl [HG3]; · iexact HG3
  isplitl [HW0 HW1 HW2 HW3]
  · isplitl [HW0]; · iexists _; iexact HW0
    isplitl [HW1]; · iexists _; iexact HW1
    isplitl [HW2]; · iexists _; iexact HW2
    iexists _; iexact HW3
  isplitl [HC0 HC1 HC2 HC3]
  · isplitl [HC0]; · iexists _; iexact HC0
    isplitl [HC1]; · iexists _; iexact HC1
    isplitl [HC2]; · iexists _; iexact HC2
    iexists _; iexact HC3
  isplitl [HD0 HD1]
  · isplitl [HD0]; · iexists _; iexact HD0
    iexists _; iexact HD1
  isplitl [HF0 HF1 HF2 HF3 HF4 HF7 HF8 HF9 HF10 HF11 HF12 HF13 HF14 HF15 HF16]
  · isplitl [HF0]; · icases HF0 with ⟨%f, HF0⟩; iexists f; iapply (entails_of_eq (heldM_whole c _ _).symm); iexact HF0
    isplitl [HF1]; · icases HF1 with ⟨%f, HF1⟩; iexists f; iapply (entails_of_eq (heldM_whole c _ _).symm); iexact HF1
    isplitl [HF2]; · icases HF2 with ⟨%f, HF2⟩; iexists f; iapply (entails_of_eq (heldM_whole c _ _).symm); iexact HF2
    isplitl [HF3]; · icases HF3 with ⟨%f, HF3⟩; iexists f; iapply (entails_of_eq (heldM_whole c _ _).symm); iexact HF3
    isplitl [HF4]; · icases HF4 with ⟨%f, HF4⟩; iexists f; iapply (entails_of_eq (heldM_whole c _ _).symm); iexact HF4
    isplitl [HF7]; · icases HF7 with ⟨%f, HF7⟩; iexists f; iapply (entails_of_eq (heldM_whole c _ _).symm); iexact HF7
    isplitl [HF8]; · icases HF8 with ⟨%f, HF8⟩; iexists f; iapply (entails_of_eq (heldM_whole c _ _).symm); iexact HF8
    isplitl [HF9]; · icases HF9 with ⟨%f, HF9⟩; iexists f; iapply (entails_of_eq (heldM_whole c _ _).symm); iexact HF9
    isplitl [HF10]; · icases HF10 with ⟨%f, HF10⟩; iexists f; iapply (entails_of_eq (heldM_whole c _ _).symm); iexact HF10
    isplitl [HF11]; · icases HF11 with ⟨%f, HF11⟩; iexists f; iapply (entails_of_eq (heldM_whole c _ _).symm); iexact HF11
    isplitl [HF12]; · icases HF12 with ⟨%f, HF12⟩; iexists f; iapply (entails_of_eq (heldM_whole c _ _).symm); iexact HF12
    isplitl [HF13]; · icases HF13 with ⟨%f, HF13⟩; iexists f; iapply (entails_of_eq (heldM_whole c _ _).symm); iexact HF13
    isplitl [HF14]; · icases HF14 with ⟨%f, HF14⟩; iexists f; iapply (entails_of_eq (heldM_whole c _ _).symm); iexact HF14
    isplitl [HF15]; · icases HF15 with ⟨%f, HF15⟩; iexists f; iapply (entails_of_eq (heldM_whole c _ _).symm); iexact HF15
    icases HF16 with ⟨%f, HF16⟩; iexists f; iapply (entails_of_eq (heldM_whole c _ _).symm); iexact HF16
  isplitl [HM0 HM1 HM2 HM3 HM4]
  · isplitl [HM0]; · iexact HM0
    isplitl [HM1]; · iexact HM1
    isplitl [HM2]; · iexact HM2
    isplitl [HM3]; · iexact HM3
    iexact HM4
  isplitl [HM5 HM6 HM7 HM8]
  · isplitl [HM5]; · iexact HM5
    isplitl [HM6]; · iexact HM6
    isplitl [HM7]; · iexact HM7
    iexact HM8
  isplitl [HM9 HM10 HM11 HM12]
  · isplitl [HM9]; · iexact HM9
    isplitl [HM10]; · iexact HM10
    isplitl [HM11]; · iexact HM11
    iexact HM12
  isplitl [HM13 HM14]
  · isplitl [HM13]; · iexact HM13
    iexact HM14
  isplitl [HM15 HM16 HM17]
  · isplitl [HM15]; · iexact HM15
    isplitl [HM16]; · iexact HM16
    iexact HM17
  iexact HO

set_option maxHeartbeats 4000000 in
/-- OUT: what the body gives back is what the region is left with. -/
theorem phi_out (c : Dev nD) : iprop(POST0 m c ∗ ∃ r, prngReg c r) ⊢ iprop(PHI m (G m) c ∗ ∃ W, owes (c : Thread nD τ) 0 W) := by
  unfold PHI POST0 POST
  rw [Pipeline.ΦDRG_eq, scopedRest0_eq, ownSems00_eq, hbmPts0_eq, routed0_eq, G_0, G_1, G_2, G_3]
  iintro ⟨⟨HX0, HX1, HX4, HX5, HX6, HG0, HG1, HG2, HX2, HX3, HG3, HW, HC, HD, ⟨HF0, HF1, HF2, HF3, HF4, HF7, HF8, HF9, HF10, HF11, HF12, HF13, HF14, HF15, HF16⟩, ⟨HM0, HM1, HM2, HM3, HM4⟩, ⟨HM5, HM6, HM7, HM8⟩, ⟨HM9, HM10, HM11, HM12⟩, ⟨HM13, HM14⟩, ⟨HM15, HM16, HM17⟩, HO⟩, Hp⟩
  ihave HF5 := ((entails_of_eq (four (fun s => iprop(∃ f, wHeld c s f))).symm).trans (wS_join c)) $$ HW
  ihave HF6 := ((entails_of_eq (four (fun s => iprop(∃ f, cHeld c s f))).symm).trans (cS_join c)) $$ HC
  ihave HF17 := ((entails_of_eq (two (fun s => iprop(∃ f, dHeld c s f))).symm).trans (dS_join c)) $$ HD
  ihave HX2 := (entails_of_eq (wT_whole c (V m c main_arg2)).symm) $$ HX2
  ihave HX3 := (entails_of_eq (cT_whole c (V m c main_arg3)).symm) $$ HX3
  ihave HG3 := (entails_of_eq (dT_done c (V m c main_v1_3) _)) $$ HG3
  isplitr [HO]
  swap; · iexact HO
  isplitl [HF0 HF1 HF2 HF3 HF4 HF5 HF6 HF7 HF8 HF9 HF10 HF11 HF12 HF13 HF14 HF15 HF16 HF17]
  · isplitl [HF0]; · icases HF0 with ⟨%f, HF0⟩; iexists f; iapply (entails_of_eq (heldM_whole c _ _)); iexact HF0
    isplitl [HF1]; · icases HF1 with ⟨%f, HF1⟩; iexists f; iapply (entails_of_eq (heldM_whole c _ _)); iexact HF1
    isplitl [HF2]; · icases HF2 with ⟨%f, HF2⟩; iexists f; iapply (entails_of_eq (heldM_whole c _ _)); iexact HF2
    isplitl [HF3]; · icases HF3 with ⟨%f, HF3⟩; iexists f; iapply (entails_of_eq (heldM_whole c _ _)); iexact HF3
    isplitl [HF4]; · icases HF4 with ⟨%f, HF4⟩; iexists f; iapply (entails_of_eq (heldM_whole c _ _)); iexact HF4
    isplitl [HF5]; · iexact HF5
    isplitl [HF6]; · iexact HF6
    isplitl [HF7]; · icases HF7 with ⟨%f, HF7⟩; iexists f; iapply (entails_of_eq (heldM_whole c _ _)); iexact HF7
    isplitl [HF8]; · icases HF8 with ⟨%f, HF8⟩; iexists f; iapply (entails_of_eq (heldM_whole c _ _)); iexact HF8
    isplitl [HF9]; · icases HF9 with ⟨%f, HF9⟩; iexists f; iapply (entails_of_eq (heldM_whole c _ _)); iexact HF9
    isplitl [HF10]; · icases HF10 with ⟨%f, HF10⟩; iexists f; iapply (entails_of_eq (heldM_whole c _ _)); iexact HF10
    isplitl [HF11]; · icases HF11 with ⟨%f, HF11⟩; iexists f; iapply (entails_of_eq (heldM_whole c _ _)); iexact HF11
    isplitl [HF12]; · icases HF12 with ⟨%f, HF12⟩; iexists f; iapply (entails_of_eq (heldM_whole c _ _)); iexact HF12
    isplitl [HF13]; · icases HF13 with ⟨%f, HF13⟩; iexists f; iapply (entails_of_eq (heldM_whole c _ _)); iexact HF13
    isplitl [HF14]; · icases HF14 with ⟨%f, HF14⟩; iexists f; iapply (entails_of_eq (heldM_whole c _ _)); iexact HF14
    isplitl [HF15]; · icases HF15 with ⟨%f, HF15⟩; iexists f; iapply (entails_of_eq (heldM_whole c _ _)); iexact HF15
    isplitl [HF16]; · icases HF16 with ⟨%f, HF16⟩; iexists f; iapply (entails_of_eq (heldM_whole c _ _)); iexact HF16
    iexact HF17
  isplitl [Hp]; · iexact Hp
  isplitl [HM0 HM1 HM2 HM3 HM4 HM5 HM6 HM7 HM8 HM9 HM10 HM11 HM12 HM13 HM14 HM15 HM16 HM17]
  · isplitl [HM0]; · iexact HM0
    isplitl [HM1]; · iexact HM1
    isplitl [HM2]; · iexact HM2
    isplitl [HM3]; · iexact HM3
    isplitl [HM4]; · iexact HM4
    isplitl [HM5]; · iexact HM5
    isplitl [HM6]; · iexact HM6
    isplitl [HM7]; · iexact HM7
    isplitl [HM8]; · iexact HM8
    isplitl [HM9]; · iexact HM9
    isplitl [HM10]; · iexact HM10
    isplitl [HM11]; · iexact HM11
    isplitl [HM12]; · iexact HM12
    isplitl [HM13]; · iexact HM13
    isplitl [HM14]; · iexact HM14
    isplitl [HM15]; · iexact HM15
    isplitl [HM16]; · iexact HM16
    iexact HM17
  isplitl [HX0 HX1 HX2 HX3 HX4 HX5 HX6]
  · isplitl [HX0]; · iapply (entails_of_eq (heldM_whole c _ _)); iexact HX0
    isplitl [HX1]; · iapply (entails_of_eq (heldM_whole c _ _)); iexact HX1
    isplitl [HX2]; · iexact HX2
    isplitl [HX3]; · iexact HX3
    isplitl [HX4]; · iapply (entails_of_eq (heldM_whole c _ _)); iexact HX4
    isplitl [HX5]; · iapply (entails_of_eq (heldM_whole c _ _)); iexact HX5
    iapply (entails_of_eq (heldM_whole c _ _)); iexact HX6
  isplitl [HG0]; · iapply (entails_of_eq (heldM_whole c _ _)); iexact HG0
  isplitl [HG1]; · iapply (entails_of_eq (heldM_whole c _ _)); iexact HG1
  isplitl [HG2]; · iapply (entails_of_eq (heldM_whole c _ _)); iexact HG2
  iexact HG3

/-! ## The obligation and the run -/

/-- The proof data: no window is staged; the body turns the launch contents into the final ones. -/
def dats (_ : Fin 1) (c : Dev nD) : Pipeline.Dat τ (Elt F) Unit ℕ (Pipeline.UD sig nD τ) ℕ cfg0 c where
  A w := V m c (Pipeline.arrRef cfg0.spec w)
  after w _ := w.elim0
  Φ t := if t = 0 then PHI m (V m) c else PHI m (G m) c
  q _ := fullShare
  owed _ := 0

/-- The region's one call of the body. -/
theorem defs_tc : (defs₀ (F := F)) .tc cfg0.body = fun _ => bodyG := rfl
theorem prog_eq (t : Fin cfg0.N) : (defs₀ (F := F)) .tc cfg0.body (cfg0.bodyArgs t (cfg0.slots t)) = bodyG :=
  (congrFun defs_tc _).trans rfl

theorem no_windows (Φ : Fin cfg0.W → sProp 𝕄) : bigSep Finset.univ Φ = (BI.emp : sProp 𝕄) := rfl

set_option backward.isDefEq.respectTransparency.types false in
theorem body_obligation (c : Dev nD) : Pipeline.BodyObligation (dats (F := F) m 0 c) (defs₀ (F := F)) 𝒱₀ () Set.univ := fun t => by
  have hN : cfg0.N = 1 := N_0
  have ht : t.val = 0 := by have := t.isLt; omega
  rw [no_windows, no_windows]
  rw [show (dats m 0 c).Φ t.castSucc = PHI m (V m) c from if_pos (Fin.ext ht),
    show (dats m 0 c).Φ t.succ = PHI m (G m) c from if_neg (Fin.succ_ne_zero t)]
  unfold Pipeline.Dat.owesAt Pipeline.owesWithin
  rw [show (dats m 0 c).owed t.castSucc = 0 from rfl, show (dats m 0 c).owed t.succ = 0 from rfl]
  iintro ⟨HΦ, ⟨%W, -, HW⟩, -⟩
  ihave HP := (phi_in m c W) $$ [HΦ HW]
  · isplitl [HΦ]; · iexact HΦ
    iexact HW
  icases HP with ⟨HP, Hr⟩
  sl_rw [prog_eq t]
  iapply (bodyRun c (V m c main_arg2) (V m c main_arg3) (V m c main_v1_3) (V m c main_v0) (V m c main_arg1) (V m c main_arg4) (V m c main_arg5) (V m c main_arg6) (V m c main_v1_0) (V m c main_v1_1) (V m c main_v1_2) W (fun _ => _))
  isplitl [HP]; · iexact HP
  iintro HQ
  ihave HQ' := (phi_out m c) $$ [HQ Hr]
  · isplitl [HQ]; · iexact HQ
    iexact Hr
  icases HQ' with ⟨HΦ, ⟨%W', HW⟩⟩
  isplitl [HΦ]; · iexact HΦ
  isplitl [HW]
  · iexists W'; isplitr; · ipureintro; exact fun _ _ => Or.inl trivial
    iexact HW
  · iempintro
  exact iprop(emp)

theorem hmain' (𝒱 : Variants) : Pipeline.HMain (Ix := Unit) (Name := ℕ) (U := Pipeline.UD sig nD τ) (Lvl := ℕ) cfgs 0 defs₀ 𝒱 m (main (F := F)) (V m) :=
  Pipeline.hmain_prefix cfgs 0 defs₀ 𝒱 m main hostOps0 hostOps0_sub hostOps0_fresh main_chain

set_option backward.isDefEq.respectTransparency.types false in
/-- THE RUN: every buffer the kernel does not write as the region found it, every result at its value, every semaphore at zero. -/
theorem run_main : θ_run defs (onTc (τ := τ) (main (F := F))) (s₀ m ρ) (fun r => Pipeline.FramePostRG cfgs (dats m) 0 R0 (V m) (G m) r ∧ r.2.sem = fun _ => 0) :=
  Pipeline.θ_run_frame_dmaRG (Q' := _) cfgs (dats m) (0 : Fin 1) launch0 osem0 defs₀ 𝒱₀ ownSemFacts0 H0 R0 H0_sub R0_sub m ρ main
    (hbody := fun c => (body_obligation m c).loose) (hshare := fun c => (dats m 0 c).share_full fun _ => rfl)
    (howed := fun _ _ => rfl) (V := V m) (hmain := hmain' m 𝒱₀) (hA := fun _ _ => rfl) (G := G m)
    (hin := fun _ => .rfl) (hout := fun _ => .rfl)

/-- THE FRAME AND THE VALUES, at any float interpretation `F`. -/
theorem run_values : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_v1_0) = outF0 m c
      ∧ r.2.mem ((c.tc : Thread nD τ).loc main_v1_1) = outF1 m c
      ∧ r.2.mem ((c.tc : Thread nD τ).loc main_v1_2) = outF2 m c
      ∧ r.2.mem ((c.tc : Thread nD τ).loc main_v1_3) = outF3 m c)
      ∧ r.2.sem = fun _ => 0) :=
  (θ_run defs _ _).mono (fun _ h => ⟨fun c => by
    have e := fun b hb => (h.1.1 c).2 b hb
    refine ⟨(e main_arg0 (Finset.mem_sdiff.mpr ⟨Pipeline.mem_restRefs_of main_arg0 (by decide) (by decide), by decide⟩)).trans (V_main_arg0 m c), (e main_arg1 (Finset.mem_sdiff.mpr ⟨Pipeline.mem_restRefs_of main_arg1 (by decide) (by decide), by decide⟩)).trans (V_main_arg1 m c), (e main_arg2 (Finset.mem_sdiff.mpr ⟨Pipeline.mem_restRefs_of main_arg2 (by decide) (by decide), by decide⟩)).trans (V_main_arg2 m c), (e main_arg3 (Finset.mem_sdiff.mpr ⟨Pipeline.mem_restRefs_of main_arg3 (by decide) (by decide), by decide⟩)).trans (V_main_arg3 m c), (e main_arg4 (Finset.mem_sdiff.mpr ⟨Pipeline.mem_restRefs_of main_arg4 (by decide) (by decide), by decide⟩)).trans (V_main_arg4 m c), (e main_arg5 (Finset.mem_sdiff.mpr ⟨Pipeline.mem_restRefs_of main_arg5 (by decide) (by decide), by decide⟩)).trans (V_main_arg5 m c), (e main_arg6 (Finset.mem_sdiff.mpr ⟨Pipeline.mem_restRefs_of main_arg6 (by decide) (by decide), by decide⟩)).trans (V_main_arg6 m c), ?_, ?_, ?_, ?_⟩
    · exact (h.1.2 c main_v1_0 (by decide)).trans (G_0 m c)
    · exact (h.1.2 c main_v1_1 (by decide)).trans (G_1 m c)
    · exact (h.1.2 c main_v1_2 (by decide)).trans (G_2 m c)
    · exact (h.1.2 c main_v1_3 (by decide)).trans (G_3 m c), h.2⟩) (run_main m ρ)

end Cert.Proof.K

end
-- ==== Proof.Frames.lean ====
/-
  The frames: each program ends, with its arguments unchanged and its semaphores at zero. The kernel at the machine's formats
  and the kernel at ideal arithmetic are one program, printed twice (no rewrite was applied): the run of Launch.lean, which
  holds at every float interpretation, is the run of both.
-/
module

public import proofs.«01_k».proof.Proof.Launch
public import proofs.«01_k».proof.Proof.Gen.Kernel.Skeleton
public import proofs.«01_k».proof.Proof.Gen.Kernel.Loops
public import proofs.«01_k».proof.Proof.Gen.Kernel.Launch

@[expose] public section

noncomputable section

namespace Cert.Proof.K

open Idealize.ShloMosaic
open Idealize.ShloMosaic.TcCoe Idealize.ShloMosaic.Tactic
open Idealize.SL.Sem

/-- The kernel at ideal arithmetic. -/
theorem quiescent_ideal : @Cert.quiescent_KernelIdeal Cert.KernelIdeal.Gen.facts := fun m g _ =>
  (θ_run _ _ _).mono (fun _ h => ⟨fun c => by
    obtain ⟨e0, e1, e2, e3, e4, e5, e6, -⟩ := h.1 c
    exact ⟨e0, e1, e2, e3, e4, e5, e6⟩, h.2⟩) (run_values (F := Ideal) m g)

/-- The kernel at the machine's formats. -/
theorem quiescent_bits : @Cert.quiescent_Kernel Cert.Kernel.Gen.facts := fun m g _ =>
  (θ_run _ _ _).mono (fun _ h => ⟨fun c => by
    obtain ⟨e0, e1, e2, e3, e4, e5, e6, -⟩ := h.1 c
    exact ⟨e0, e1, e2, e3, e4, e5, e6⟩, h.2⟩) (run_values (F := Bits) m g)

end Cert.Proof.K

end
-- ==== Proof.Nib.lean ====
module

public import proofs.«01_k».proof.Proof.Gen.KernelIdeal.Skeleton
public import Idealize.ShloMosaic.Lib.Pointwise
public import Idealize.ShloMosaic.Lib.BitcastPair

@[expose] public section

noncomputable section

namespace Cert.Proof.K

open Cert.KernelIdeal Cert.KernelIdeal.Gen
open Idealize.ShloMosaic

/-- The bits of the mask that keeps every byte's high half, as a word and as a byte. -/
theorem mask_bit : ∀ p : Fin 32, (4042322160#32).getLsbD p.val = decide (4 ≤ p.val % 8) := by decide
theorem mask8_bit : ∀ p : Fin 8, (0xF0#8).getLsbD p.val = decide (4 ≤ p.val) := by decide

theorem row_eq (j : S128x512.Idx) : S128x512.row j = (j 0).val := rfl
theorem row_eq' (j : S32x512.Idx) : S32x512.row j = (j 0).val := rfl

/-- Four rows of bytes read as a row of words: bit `q` of a word is bit `q % 8` of the byte in its place. -/
theorem word_bit (c : IVec S128x512 8) (i : S32x512.Idx) (j : S128x512.Idx) (q q' : ℕ) (hq : q < 32) (h1 : (i 1).val = (j 1).val)
    (h0 : ((i 0).val * 32 + q) / 8 = (j 0).val) (hb : ((i 0).val * 32 + q) % 8 = q') :
    (bitcast S32x512 32 c bitcasts_S128x512_w8_S32x512_w32 i).getLsbD q = (c j).getLsbD q' := by
  rw [bitcast_getLsbD c _ i q hq (by decide)]
  subst hb
  refine congrArg (fun v : BitVec 8 => v.getLsbD (((i 0).val * 32 + q) % 8)) (congrArg c ?_)
  funext a
  apply Fin.ext
  fin_cases a
  · exact h0
  · exact h1

/-- Masking the words masks the bytes; -/
theorem byte_hi (c : IVec S128x512 8) (j : S128x512.Idx) :
    bitcast S128x512 8 (andi (bitcast S32x512 32 c bitcasts_S128x512_w8_S32x512_w32) (broadcast S32x512 4042322160#32)) bitcasts_S32x512_w32_S128x512_w8 j
      = c j &&& 0xF0#8 := by
  apply BitVec.eq_of_getLsbD_eq
  intro q hq
  rw [bitcast_getLsbD _ _ j q hq (by decide)]
  have hr := row_eq j
  have hp : (S128x512.row j * 8 + q) % 32 < 32 := Nat.mod_lt _ (by decide)
  show (_ &&& 4042322160#32 : BitVec 32).getLsbD _ = _
  rw [BitVec.getLsbD_and, BitVec.getLsbD_and, mask8_bit ⟨q, hq⟩, mask_bit ⟨_, hp⟩, word_bit c _ j _ q hp ?_ ?_ ?_]
  · exact congrArg _ (decide_eq_decide.mpr (by simp only []; omega))
  · rw [Shape.Bitcasts.srcIdx_other _ _ _ _ _ (by decide)]; rfl
  · rw [Shape.Bitcasts.srcIdx_row _ _ _ _ _ rfl]; omega
  · rw [Shape.Bitcasts.srcIdx_row _ _ _ _ _ rfl]; omega

/-- and so does shifting them first by half a byte: the bits that cross from one byte into the next are masked. -/
theorem byte_lo (c : IVec S128x512 8) (j : S128x512.Idx) :
    bitcast S128x512 8 (andi (shli (bitcast S32x512 32 c bitcasts_S128x512_w8_S32x512_w32) (broadcast S32x512 4#32)) (broadcast S32x512 4042322160#32)) bitcasts_S32x512_w32_S128x512_w8 j
      = c j <<< 4 &&& 0xF0#8 := by
  apply BitVec.eq_of_getLsbD_eq
  intro q hq
  rw [bitcast_getLsbD _ _ j q hq (by decide)]
  have hr := row_eq j
  have hp : (S128x512.row j * 8 + q) % 32 < 32 := Nat.mod_lt _ (by decide)
  show (((_ : BitVec 32) <<< (4 : ℕ)) &&& 4042322160#32).getLsbD _ = _
  rw [BitVec.getLsbD_and, BitVec.getLsbD_and, mask8_bit ⟨q, hq⟩, mask_bit ⟨_, hp⟩, BitVec.getLsbD_shiftLeft, BitVec.getLsbD_shiftLeft]
  by_cases h4 : 4 ≤ q
  · rw [word_bit c _ j _ (q - 4) (by omega) ?_ ?_ ?_]
    · have e1 : decide ((S128x512.row j * 8 + q) % 32 < 32) = true := decide_eq_true hp
      have e2 : decide ((S128x512.row j * 8 + q) % 32 < 4) = false := decide_eq_false (by omega)
      have e3 : decide (q < 8) = true := decide_eq_true hq
      have e4 : decide (q < 4) = false := decide_eq_false (by omega)
      have e5 : decide (4 ≤ (S128x512.row j * 8 + q) % 32 % 8) = decide (4 ≤ q) := decide_eq_decide.mpr (by omega)
      simp only [e1, e2, e3, e4, e5]
    · rw [Shape.Bitcasts.srcIdx_other _ _ _ _ _ (by decide)]; rfl
    · rw [Shape.Bitcasts.srcIdx_row _ _ _ _ _ rfl]; omega
    · rw [Shape.Bitcasts.srcIdx_row _ _ _ _ _ rfl]; omega
  · have e5 : decide (4 ≤ (S128x512.row j * 8 + q) % 32 % 8) = false := decide_eq_false (by omega)
    have e6 : decide (4 ≤ q) = false := decide_eq_false h4
    simp only [e5, e6, Bool.and_false]

/-- A signed code in the low half of a byte, and in the high half. -/
def loC (c : BitVec 8) : EReal :=
  FloatOps.sitofp (F := Ideal) FTy.bf16 (IntOp.subi (IntOp.xori (IntOp.andi (BitVec.setWidth 32 c) 15#32) 8#32) 8#32)
def hiC (c : BitVec 8) : EReal :=
  FloatOps.sitofp (F := Ideal) FTy.bf16 (IntOp.subi (IntOp.xori (IntOp.andi (IntOp.shrsi ArithUnit.vector (BitVec.setWidth 32 c) 4#32) 15#32) 8#32) 8#32)

theorem lo_int : ∀ c : BitVec 8, (c <<< 4 &&& 0xF0#8).toInt = 16 * (IntOp.subi (IntOp.xori (IntOp.andi (BitVec.setWidth 32 c) 15#32) 8#32) 8#32).toInt := by decide
theorem hi_int : ∀ c : BitVec 8, (c &&& 0xF0#8).toInt
    = 16 * (IntOp.subi (IntOp.xori (IntOp.andi (IntOp.shrsi ArithUnit.vector (BitVec.setWidth 32 c) 4#32) 15#32) 8#32) 8#32).toInt := by decide

theorem ofBits_sixteenth : Ideal.ofBits .bf16 0x3D80#16 = (((1 : ℝ) / 16 : ℝ) : EReal) := by
  simp [Ideal.ofBits, Ideal.ieee, -EReal.coe_mul]; norm_num

theorem sixteenth (x y : ℤ) (h : x = 16 * y) : ((x : ℝ) : EReal) * Ideal.ofBits .bf16 0x3D80#16 = ((y : ℝ) : EReal) := by
  rw [ofBits_sixteenth, ← EReal.coe_mul, h]
  congr 1
  push_cast
  ring

/-- A half byte read as the high half of a byte is sixteen times the code. -/
theorem lo_val (c : BitVec 8) : FloatOps.sitofp (F := Ideal) FTy.bf16 (c <<< 4 &&& 0xF0#8) * Ideal.ofBits .bf16 0x3D80#16 = loC c := sixteenth _ _ (lo_int c)
theorem hi_val (c : BitVec 8) : FloatOps.sitofp (F := Ideal) FTy.bf16 (c &&& 0xF0#8) * Ideal.ofBits .bf16 0x3D80#16 = hiC c := sixteenth _ _ (hi_int c)

end Cert.Proof.K
-- ==== Proof.Groups.lean ====
/-
  What each of the ten pairs of stores puts into the tile of errors, at an element: the weight less the code times the scale.
-/
module

public import proofs.«01_k».proof.Proof.Nib

@[expose] public section

noncomputable section

namespace Cert.Proof.K

open Cert.KernelIdeal Cert.KernelIdeal.Gen
open Idealize.ShloMosaic

variable (c : Vec Ideal S1x128x512 .i8) (z : Vec Ideal S1x512 .bf16) (w : Vec Ideal S1x128x512 .bf16) (i : Fin 128) (n : Fin 512)

/-- Rows 0 to 127: the low halves of the bytes. -/
theorem lo_0 : k0_pay5 (F := Ideal) (k0_pay3 c) (k0_pay4 z) w (ix2 i n) = w (ix3 0 i n) - loC (c (ix3 0 i n)) * z (ix2 0 n) := by
  pointwise [k0_pay1, k0_pay3, k0_pay4, k0_pay5, byte_lo, lo_val]
/-- Rows 1280 to 1407: the high halves of the bytes. -/
theorem hi_0 : k0_pay6 (F := Ideal) (k0_pay2 c) z w (ix2 i n) = w (ix3 0 i n) - hiC (c (ix3 0 i n)) * z (ix2 0 n) := by
  pointwise [k0_pay1, k0_pay2, k0_pay6, byte_hi, hi_val]
/-- Rows 128 to 255: the low halves of the bytes. -/
theorem lo_1 : k0_pay10 (F := Ideal) (k0_pay9 c z) w (ix2 i n) = w (ix3 0 i n) - loC (c (ix3 0 i n)) * z (ix2 0 n) := by
  pointwise [k0_pay7, k0_pay9, k0_pay10, byte_lo, lo_val]
/-- Rows 1408 to 1535: the high halves of the bytes. -/
theorem hi_1 : k0_pay11 (F := Ideal) (k0_pay8 c) z w (ix2 i n) = w (ix3 0 i n) - hiC (c (ix3 0 i n)) * z (ix2 0 n) := by
  pointwise [k0_pay7, k0_pay8, k0_pay11, byte_hi, hi_val]
/-- Rows 256 to 383: the low halves of the bytes. -/
theorem lo_2 : k0_pay15 (F := Ideal) (k0_pay14 c z) w (ix2 i n) = w (ix3 0 i n) - loC (c (ix3 0 i n)) * z (ix2 0 n) := by
  pointwise [k0_pay12, k0_pay14, k0_pay15, byte_lo, lo_val]
/-- Rows 1536 to 1663: the high halves of the bytes. -/
theorem hi_2 : k0_pay16 (F := Ideal) (k0_pay13 c) z w (ix2 i n) = w (ix3 0 i n) - hiC (c (ix3 0 i n)) * z (ix2 0 n) := by
  pointwise [k0_pay12, k0_pay13, k0_pay16, byte_hi, hi_val]
/-- Rows 384 to 511: the low halves of the bytes. -/
theorem lo_3 : k0_pay20 (F := Ideal) (k0_pay19 c z) w (ix2 i n) = w (ix3 0 i n) - loC (c (ix3 0 i n)) * z (ix2 0 n) := by
  pointwise [k0_pay17, k0_pay19, k0_pay20, byte_lo, lo_val]
/-- Rows 1664 to 1791: the high halves of the bytes. -/
theorem hi_3 : k0_pay21 (F := Ideal) (k0_pay18 c) z w (ix2 i n) = w (ix3 0 i n) - hiC (c (ix3 0 i n)) * z (ix2 0 n) := by
  pointwise [k0_pay17, k0_pay18, k0_pay21, byte_hi, hi_val]
/-- Rows 512 to 639: the low halves of the bytes. -/
theorem lo_4 : k0_pay25 (F := Ideal) (k0_pay24 c z) w (ix2 i n) = w (ix3 0 i n) - loC (c (ix3 0 i n)) * z (ix2 0 n) := by
  pointwise [k0_pay22, k0_pay24, k0_pay25, byte_lo, lo_val]
/-- Rows 1792 to 1919: the high halves of the bytes. -/
theorem hi_4 : k0_pay26 (F := Ideal) (k0_pay23 c) z w (ix2 i n) = w (ix3 0 i n) - hiC (c (ix3 0 i n)) * z (ix2 0 n) := by
  pointwise [k0_pay22, k0_pay23, k0_pay26, byte_hi, hi_val]
/-- Rows 640 to 767: the low halves of the bytes. -/
theorem lo_5 : k0_pay30 (F := Ideal) (k0_pay29 c z) w (ix2 i n) = w (ix3 0 i n) - loC (c (ix3 0 i n)) * z (ix2 0 n) := by
  pointwise [k0_pay27, k0_pay29, k0_pay30, byte_lo, lo_val]
/-- Rows 1920 to 2047: the high halves of the bytes. -/
theorem hi_5 : k0_pay31 (F := Ideal) (k0_pay28 c) z w (ix2 i n) = w (ix3 0 i n) - hiC (c (ix3 0 i n)) * z (ix2 0 n) := by
  pointwise [k0_pay27, k0_pay28, k0_pay31, byte_hi, hi_val]
/-- Rows 768 to 895: the low halves of the bytes. -/
theorem lo_6 : k0_pay36 (F := Ideal) (k0_pay34 c z) (k0_pay35 w) (ix2 i n) = w (ix3 0 i n) - loC (c (ix3 0 i n)) * z (ix2 0 n) := by
  pointwise [k0_pay32, k0_pay34, k0_pay35, k0_pay36, byte_lo, lo_val]
/-- Rows 2048 to 2175: the high halves of the bytes. -/
theorem hi_6 : k0_pay37 (F := Ideal) (k0_pay33 c) z w (ix2 i n) = w (ix3 0 i n) - hiC (c (ix3 0 i n)) * z (ix2 0 n) := by
  pointwise [k0_pay32, k0_pay33, k0_pay37, byte_hi, hi_val]
/-- Rows 896 to 1023: the low halves of the bytes. -/
theorem lo_7 : k0_pay41 (F := Ideal) (k0_pay40 c z w) (ix2 i n) = w (ix3 0 i n) - loC (c (ix3 0 i n)) * z (ix2 0 n) := by
  pointwise [k0_pay38, k0_pay40, k0_pay41, byte_lo, lo_val]
/-- Rows 2176 to 2303: the high halves of the bytes. -/
theorem hi_7 : k0_pay42 (F := Ideal) (k0_pay39 c) z w (ix2 i n) = w (ix3 0 i n) - hiC (c (ix3 0 i n)) * z (ix2 0 n) := by
  pointwise [k0_pay38, k0_pay39, k0_pay42, byte_hi, hi_val]
/-- Rows 1024 to 1151: the low halves of the bytes. -/
theorem lo_8 : k0_pay46 (F := Ideal) (k0_pay45 c z w) (ix2 i n) = w (ix3 0 i n) - loC (c (ix3 0 i n)) * z (ix2 0 n) := by
  pointwise [k0_pay43, k0_pay45, k0_pay46, byte_lo, lo_val]
/-- Rows 2304 to 2431: the high halves of the bytes. -/
theorem hi_8 : k0_pay47 (F := Ideal) (k0_pay44 c) z w (ix2 i n) = w (ix3 0 i n) - hiC (c (ix3 0 i n)) * z (ix2 0 n) := by
  pointwise [k0_pay43, k0_pay44, k0_pay47, byte_hi, hi_val]
/-- Rows 1152 to 1279: the low halves of the bytes. -/
theorem lo_9 : k0_pay51 (F := Ideal) (k0_pay50 c z w) (ix2 i n) = w (ix3 0 i n) - loC (c (ix3 0 i n)) * z (ix2 0 n) := by
  pointwise [k0_pay48, k0_pay50, k0_pay51, byte_lo, lo_val]
/-- Rows 2432 to 2559: the high halves of the bytes. -/
theorem hi_9 : k0_pay52 (F := Ideal) (k0_pay49 c) z w (ix2 i n) = w (ix3 0 i n) - hiC (c (ix3 0 i n)) * z (ix2 0 n) := by
  pointwise [k0_pay48, k0_pay49, k0_pay52, byte_hi, hi_val]

end Cert.Proof.K
-- ==== Proof.Reads.lean ====
/-
  What the loop's loads read: a slot of a ring of tiles, a row of scales, a tile of `b`.
-/
module

public import proofs.«01_k».proof.Proof.Loop
public import proofs.«01_k».proof.Proof.Groups

@[expose] public section

noncomputable section

namespace Cert.Proof.K

open Cert.KernelIdeal Cert.KernelIdeal.Gen
open Idealize.ShloMosaic
open Idealize.ShloMosaic.TcCoe

variable (c : Dev nD) (XW : Buf (Elt Ideal) (wHbm.view.loc (c : Thread nD τ))) (XC : Buf (Elt Ideal) (cHbm.view.loc (c : Thread nD τ)))

theorem trip_lt (k : Trip) : k.val < 20 := lt_of_lt_of_eq k.isLt trips_eq

/-- Column `n` of tile `k`, in the whole. -/
abbrev col (k : Trip) (n : Fin 512) : Fin 10240 := ⟨512 * k.val + n.val, by have := trip_lt k; omega⟩

/-- A load of 128 rows of a slot of the ring of weights reads those rows of the slot. -/
theorem slot_w (s : Fin 4) (off : Fin 3 → ℕ) (o : ℕ) (ho : o + 128 ≤ 2560) (e : off = ![s.val, o, 0]) (hb) (i : Fin 128) (n : Fin 512)
    (g : (Memref.whole cc0_scratch5).view.ty.Contents (Elt Ideal)) :
    View.readAt (Elt Ideal) (Memref.whole cc0_scratch5).view (Rect.unit (s := S4x2560x512) off S1x128x512.size hb).toLoadRect g (ix3 0 i n)
      = (wS s).view.read (Elt Ideal) g (ix2 ⟨o + i.val, by omega⟩ n) := by
  subst e
  have h : (Rect.unit (s := S4x2560x512) ![s.val, o, 0] S1x128x512.size hb).toLoadRect.idx (ix3 0 i n) =
      (Rect.unit (s := S4x2560x512) (slotOff4 s) S1x2560x512.size (wSlot_inb s)).emb (Shape.reshapeEquiv (s := S1x2560x512) (s' := S2560x512) (Shape.Squeezes.numel_eq squeezes_S1x2560x512_S2560x512) (ix2 ⟨o + i.val, by omega⟩ n)) := by
    rw [show Shape.reshapeEquiv (s := S1x2560x512) (s' := S2560x512) (Shape.Squeezes.numel_eq squeezes_S1x2560x512_S2560x512) (ix2 ⟨o + i.val, by omega⟩ n) = ix3 0 ⟨o + i.val, by omega⟩ n from
      (Shape.reshapeEquiv_cons_one (d := ![2560, 512]) _ _).trans (by funext a; fin_cases a <;> rfl)]
    funext a
    apply Fin.ext
    fin_cases a <;> simp
  exact congrArg g h

/-- Tile `k` of the weights is columns `512 k …` of the whole. -/
theorem words_w (k : Trip) (i : Fin 2560) (n : Fin 512) :
    wWords c XW (Ring.bk 20 k.val) (ix2 i n) = wHbm.view.read (Elt Ideal) XW (ix2 i (col k n)) := by
  have h : (Rect.unit (s := S2560x10240) (tileOff (Ring.bk 20 k.val)) S2560x512.size (wTile_inb _)).emb (ix2 i n) = ix2 i (col k n) := by
    have hk := Ring.bk_val (trip_lt k)
    funext a
    apply Fin.ext
    fin_cases a <;> simp [hk, trip_lt k]
  exact congrArg XW h

/-- What a load of a slot reads in trip `k`, the slot holding tile `k`. -/
theorem read_w (k : Trip) (off : Fin 3 → ℕ) (o : ℕ) (ho : o + 128 ≤ 2560) (e : off = ![k.val % 4, o, 0]) (hb) (i : Fin 128) (n : Fin 512) :
    View.readAt (Elt Ideal) (Memref.whole cc0_scratch5).view (Rect.unit (s := S4x2560x512) off S1x128x512.size hb).toLoadRect
      ((wS (Ring.sl 4 k.val)).view.writes (Elt Ideal) (wS (Ring.sl 4 k.val)).view.junk [⟨Rect.whole S2560x512, wWords c XW (Ring.bk 20 k.val)⟩]) (ix3 0 i n)
      = wHbm.view.read (Elt Ideal) XW (ix2 ⟨o + i.val, by omega⟩ (col k n)) := by
  have h := congrFun (View.read_writes_whole (wS (Ring.sl 4 k.val)).view (wS (Ring.sl 4 k.val)).view.junk (wWords c XW (Ring.bk 20 k.val))) (ix2 ⟨o + i.val, by omega⟩ n)
  exact ((slot_w (Ring.sl 4 k.val) off o ho e hb i n _).trans h).trans (words_w c XW k _ n)

/-- A load of 128 rows of a slot of the ring of codes reads those rows of the slot. -/
theorem slot_c (s : Fin 4) (off : Fin 3 → ℕ) (o : ℕ) (ho : o + 128 ≤ 1280) (e : off = ![s.val, o, 0]) (hb) (i : Fin 128) (n : Fin 512)
    (g : (Memref.whole cc0_scratch6).view.ty.Contents (Elt Ideal)) :
    View.readAt (Elt Ideal) (Memref.whole cc0_scratch6).view (Rect.unit (s := S4x1280x512) off S1x128x512.size hb).toLoadRect g (ix3 0 i n)
      = (cS s).view.read (Elt Ideal) g (ix2 ⟨o + i.val, by omega⟩ n) := by
  subst e
  have h : (Rect.unit (s := S4x1280x512) ![s.val, o, 0] S1x128x512.size hb).toLoadRect.idx (ix3 0 i n) =
      (Rect.unit (s := S4x1280x512) (slotOff4 s) S1x1280x512.size (cSlot_inb s)).emb (Shape.reshapeEquiv (s := S1x1280x512) (s' := S1280x512) (Shape.Squeezes.numel_eq squeezes_S1x1280x512_S1280x512) (ix2 ⟨o + i.val, by omega⟩ n)) := by
    rw [show Shape.reshapeEquiv (s := S1x1280x512) (s' := S1280x512) (Shape.Squeezes.numel_eq squeezes_S1x1280x512_S1280x512) (ix2 ⟨o + i.val, by omega⟩ n) = ix3 0 ⟨o + i.val, by omega⟩ n from
      (Shape.reshapeEquiv_cons_one (d := ![1280, 512]) _ _).trans (by funext a; fin_cases a <;> rfl)]
    funext a
    apply Fin.ext
    fin_cases a <;> simp
  exact congrArg g h

/-- Tile `k` of the codes is columns `512 k …` of the whole. -/
theorem words_c (k : Trip) (i : Fin 1280) (n : Fin 512) :
    cWords c XC (Ring.bk 20 k.val) (ix2 i n) = cHbm.view.read (Elt Ideal) XC (ix2 i (col k n)) := by
  have h : (Rect.unit (s := S1280x10240) (tileOff (Ring.bk 20 k.val)) S1280x512.size (cTile_inb _)).emb (ix2 i n) = ix2 i (col k n) := by
    have hk := Ring.bk_val (trip_lt k)
    funext a
    apply Fin.ext
    fin_cases a <;> simp [hk, trip_lt k]
  exact congrArg XC h

/-- What a load of a slot reads in trip `k`, the slot holding tile `k`. -/
theorem read_c (k : Trip) (off : Fin 3 → ℕ) (o : ℕ) (ho : o + 128 ≤ 1280) (e : off = ![k.val % 4, o, 0]) (hb) (i : Fin 128) (n : Fin 512) :
    View.readAt (Elt Ideal) (Memref.whole cc0_scratch6).view (Rect.unit (s := S4x1280x512) off S1x128x512.size hb).toLoadRect
      ((cS (Ring.sl 4 k.val)).view.writes (Elt Ideal) (cS (Ring.sl 4 k.val)).view.junk [⟨Rect.whole S1280x512, cWords c XC (Ring.bk 20 k.val)⟩]) (ix3 0 i n)
      = cHbm.view.read (Elt Ideal) XC (ix2 ⟨o + i.val, by omega⟩ (col k n)) := by
  have h := congrFun (View.read_writes_whole (cS (Ring.sl 4 k.val)).view (cS (Ring.sl 4 k.val)).view.junk (cWords c XC (Ring.bk 20 k.val))) (ix2 ⟨o + i.val, by omega⟩ n)
  exact ((slot_c (Ring.sl 4 k.val) off o ho e hb i n _).trans h).trans (words_c c XC k _ n)

/-- A load of a row of scales reads the row at the tile's columns. -/
theorem read_z (k : Trip) (off : Fin 2 → ℕ) (r : Fin 20) (e : off = ![r.val, 512 * k.val]) (hb) (n : Fin 512) (x4) :
    View.readAt (Elt Ideal) (Memref.whole cc0_scratch4).view (Rect.unit (s := S20x10240) off S1x512.size hb).toLoadRect x4 (ix2 0 n)
      = (Memref.whole cc0_scratch4).view.read (Elt Ideal) x4 (ix2 r (col k n)) := by
  subst e
  have h : (Rect.unit (s := S20x10240) ![r.val, 512 * k.val] S1x512.size hb).toLoadRect.idx (ix2 0 n) = ix2 r (col k n) := by
    funext a
    apply Fin.ext
    fin_cases a <;> simp
  exact congrArg x4 h

/-- A load of a tile of `b` reads it at the tile's columns. -/
theorem read_b (k : Trip) (x3) (r : Fin 48) (n : Fin 512) :
    ld3 (F := Ideal) c k x3 (ix2 r n) = (Memref.whole cc0_scratch3).view.read (Elt Ideal) x3 (ix2 r (col k n)) := by
  have e := k0_off61_eq k
  have h : ∀ (off : Fin 2 → ℕ) (e : off = ![0, 512 * k.val]) (hb), (Rect.unit (s := S48x10240) off S48x512.size hb).toLoadRect.idx (ix2 r n) = ix2 r (col k n) := by
    intro off e hb
    subst e
    funext a
    apply Fin.ext
    fin_cases a <;> simp
  exact congrArg x3 (h _ e _)

end Cert.Proof.K
-- ==== Proof.Math.lean ====
/-
  The mathematics both programs compute, on plain functions of row and column: the quantisation error `errM`, the scaled
  projection `pM`, the residual `rM`, and the four results made from them.
-/
module

public import proofs.«01_k».proof.Proof.Nib

@[expose] public section

noncomputable section

namespace Cert.Proof

open Idealize.ShloMosaic

/-- The error of the weight at row `k`, column `n`: the weight less its code times the scale of its group of 128 rows. The
    first 1280 rows take the low half of a byte of `C`, the other 1280 the high half. -/
def errM (W : Fin 2560 → Fin 10240 → EReal) (C : Fin 1280 → Fin 10240 → BitVec 8) (Z : Fin 20 → Fin 10240 → EReal)
    (k : Fin 2560) (n : Fin 10240) : EReal :=
  W k n - (if h : k.val < 1280 then K.loC (C ⟨k.val, h⟩ n) else K.hiC (C ⟨k.val - 1280, by omega⟩ n)) * Z ⟨k.val / 128, by omega⟩ n

/-- The projection of row `t` on column `r` of `A`, scaled by the row's scale. -/
def pM (X : Fin 256 → Fin 2560 → EReal) (s : Fin 256 → EReal) (A : Fin 2560 → Fin 48 → EReal) (t : Fin 256) (r : Fin 48) : EReal :=
  (∑ d : Fin 2560, X t d * A d r) * s t

/-- The residual of row `t` at column `n`. -/
def rM (X : Fin 256 → Fin 2560 → EReal) (s : Fin 256 → EReal) (E : Fin 2560 → Fin 10240 → EReal) (P : Fin 256 → Fin 48 → EReal)
    (B : Fin 48 → Fin 10240 → EReal) (t : Fin 256) (n : Fin 10240) : EReal :=
  (∑ k : Fin 2560, X t k * E k n) * s t - ∑ r : Fin 48, P t r * B r n

/-- The gradient's rows: the residual against `B`. -/
def gM (R : Fin 256 → Fin 10240 → EReal) (B : Fin 48 → Fin 10240 → EReal) (t : Fin 256) (r : Fin 48) : EReal :=
  ∑ n : Fin 10240, R t n * B r n

/-- The factor -2 of both derivatives. -/
def negTwo : EReal := Ideal.ofBits .f32 0xC0000000#32

/-- The derivative by `A`. -/
def daM (X : Fin 256 → Fin 2560 → EReal) (s : Fin 256 → EReal) (G : Fin 256 → Fin 48 → EReal) (d : Fin 2560) (r : Fin 48) : EReal :=
  negTwo * ∑ t : Fin 256, X t d * (G t r * s t)

/-- The derivative by `B`. -/
def dbM (P : Fin 256 → Fin 48 → EReal) (R : Fin 256 → Fin 10240 → EReal) (r : Fin 48) (n : Fin 10240) : EReal :=
  negTwo * ∑ t : Fin 256, P t r * R t n

end Cert.Proof
-- ==== Proof.ETile.lean ====
/-
  The tile of the error that a trip of the loop makes: the twenty groups of 128 rows are `errM` at the tile's columns.
-/
module

public import proofs.«01_k».proof.Proof.Reads
public import proofs.«01_k».proof.Proof.Math
public import Idealize.ShloMosaic.Lib.Pipeline.ReadBack

@[expose] public section

noncomputable section

namespace Cert.Proof.K

open Cert.KernelIdeal Cert.KernelIdeal.Gen
open Idealize.ShloMosaic
open Idealize.ShloMosaic.TcCoe

variable (c : Dev nD) (XW : Buf (Elt Ideal) (wHbm.view.loc (c : Thread nD τ))) (XC : Buf (Elt Ideal) (cHbm.view.loc (c : Thread nD τ)))
  (x4 : Buf (Elt Ideal) ((Memref.whole cc0_scratch4).view.loc (c : Thread nD τ)))

/-- The weights, the codes and the scales by row and column. -/
abbrev kW := fun (k : Fin 2560) (n : Fin 10240) => (wHbm.view.read (Elt Ideal) XW (ix2 k n) : EReal)
abbrev kC := fun (k : Fin 1280) (n : Fin 10240) => (cHbm.view.read (Elt Ideal) XC (ix2 k n) : BitVec 8)
abbrev kZ := fun (g : Fin 20) (n : Fin 10240) => ((Memref.whole cc0_scratch4).view.read (Elt Ideal) x4 (ix2 g n) : EReal)
/-- The error. -/
abbrev kE := errM (kW c XW) (kC c XC) (kZ c x4)

theorem eOf_eq (k : Trip) : eOf (F := Ideal) c XW XC x4 k = tripRun.sl.v572 c XW XC k x4 := by
  unfold eOf tripRun
  first | done | (dsimp only; done) | rfl

/-- The tile as one function. -/
def eTile (k : Trip) : FVec Ideal S2560x512 .bf16 := fun j => kE c XW XC x4 (j 0) (col k (j 1))

/-- A group of the lower rows, from what its three loads read. -/
theorem band_lo (k : Trip) (r : Fin 10) (i : Fin 128) (n : Fin 512) (w q z v)
    (hw : w = kW c XW ⟨128 * r.val + i.val, by omega⟩ (col k n)) (hq : q = kC c XC ⟨128 * r.val + i.val, by omega⟩ (col k n))
    (hz : z = kZ c x4 ⟨r.val, by omega⟩ (col k n)) (hv : v = w - loC q * z) (j : S2560x512.Idx) (hj : (j 0).val = 128 * r.val + i.val)
    (hn : (j 1).val = n.val) : v = eTile c XW XC x4 k j := by
  subst hv hw hq hz
  have e0 : j 0 = (⟨128 * r.val + i.val, by omega⟩ : Fin 2560) := Fin.ext hj
  have e1 : j 1 = n := Fin.ext hn
  unfold eTile
  rw [e0, e1]
  unfold kE errM
  rw [dif_pos (show 128 * r.val + i.val < 1280 by omega)]
  have h2 : (⟨(128 * r.val + i.val) / 128, by omega⟩ : Fin 20) = ⟨r.val, by omega⟩ := Fin.ext (show (128 * r.val + i.val) / 128 = r.val by omega)
  simp only [h2]

/-- A group of the upper rows likewise. -/
theorem band_hi (k : Trip) (r : Fin 10) (i : Fin 128) (n : Fin 512) (w q z v)
    (hw : w = kW c XW ⟨1280 + 128 * r.val + i.val, by omega⟩ (col k n)) (hq : q = kC c XC ⟨128 * r.val + i.val, by omega⟩ (col k n))
    (hz : z = kZ c x4 ⟨10 + r.val, by omega⟩ (col k n)) (hv : v = w - hiC q * z) (j : S2560x512.Idx) (hj : (j 0).val = 1280 + 128 * r.val + i.val)
    (hn : (j 1).val = n.val) : v = eTile c XW XC x4 k j := by
  subst hv hw hq hz
  have e0 : j 0 = (⟨1280 + 128 * r.val + i.val, by omega⟩ : Fin 2560) := Fin.ext hj
  have e1 : j 1 = n := Fin.ext hn
  unfold eTile
  rw [e0, e1]
  unfold kE errM
  rw [dif_neg (show ¬ (1280 + 128 * r.val + i.val < 1280) by omega)]
  have h2 : (⟨(1280 + 128 * r.val + i.val) / 128, by omega⟩ : Fin 20) = ⟨10 + r.val, by omega⟩ := Fin.ext (show (1280 + 128 * r.val + i.val) / 128 = 10 + r.val by omega)
  have h1 : (⟨1280 + 128 * r.val + i.val - 1280, by omega⟩ : Fin 1280) = ⟨128 * r.val + i.val, by omega⟩ := Fin.ext (show 1280 + 128 * r.val + i.val - 1280 = 128 * r.val + i.val by omega)
  simp only [h1, h2]

/-- Group 0 of the upper rows, over any names of its three loads. -/
theorem piece_hi_0 (k : Trip) (cc zz ww hb hc hz hi)
    (hcc : cc = View.readAt (Elt Ideal) (Memref.whole cc0_scratch6).view (Rect.unit (s := S4x1280x512) (k0_off11 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off14 k) S1x512.size hz).toLoadRect x4)
    (hww : ww = View.readAt (Elt Ideal) (Memref.whole cc0_scratch5).view (Rect.unit (s := S4x2560x512) (k0_off15 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay6 (F := Ideal) (k0_pay2 cc) zz ww) x = eTile c XW XC x4 k ((Rect.unit (s := S2560x512) ![1280, 0] S128x512.size hi).emb x) := by
  subst hcc hzz hww
  obtain ⟨i, n, rfl⟩ : ∃ i n, x = ix2 i n := ⟨x 0, x 1, by funext a; fin_cases a <;> rfl⟩
  exact band_hi c XW XC x4 k 0 i n _ _ _ _ (read_w c XW k _ 1280 (by omega) (k0_off15_eq k) hb i n)
    (read_c c XC k _ 0 (by omega) (k0_off11_eq k) hc i n) (read_z k _ 10 (k0_off14_eq k) hz n x4) (hi_0 _ _ _ i n) _
    (by simp) (by simp)

/-- Group 0 of the lower rows, over any names of its three loads. -/
theorem piece_lo_0 (k : Trip) (cc zz ww hb hc hz hi)
    (hcc : cc = View.readAt (Elt Ideal) (Memref.whole cc0_scratch6).view (Rect.unit (s := S4x1280x512) (k0_off11 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off12 k) S1x512.size hz).toLoadRect x4)
    (hww : ww = View.readAt (Elt Ideal) (Memref.whole cc0_scratch5).view (Rect.unit (s := S4x2560x512) (k0_off13 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay5 (F := Ideal) (k0_pay3 cc) (k0_pay4 zz) ww) x = eTile c XW XC x4 k ((Rect.unit (s := S2560x512) ![0, 0] S128x512.size hi).emb x) := by
  subst hcc hzz hww
  obtain ⟨i, n, rfl⟩ : ∃ i n, x = ix2 i n := ⟨x 0, x 1, by funext a; fin_cases a <;> rfl⟩
  exact band_lo c XW XC x4 k 0 i n _ _ _ _ (read_w c XW k _ 0 (by omega) (k0_off13_eq k) hb i n)
    (read_c c XC k _ 0 (by omega) (k0_off11_eq k) hc i n) (read_z k _ 0 (k0_off12_eq k) hz n x4) (lo_0 _ _ _ i n) _
    (by simp) (by simp)

/-- Group 1 of the upper rows, over any names of its three loads. -/
theorem piece_hi_1 (k : Trip) (cc zz ww hb hc hz hi)
    (hcc : cc = View.readAt (Elt Ideal) (Memref.whole cc0_scratch6).view (Rect.unit (s := S4x1280x512) (k0_off16 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off19 k) S1x512.size hz).toLoadRect x4)
    (hww : ww = View.readAt (Elt Ideal) (Memref.whole cc0_scratch5).view (Rect.unit (s := S4x2560x512) (k0_off20 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay11 (F := Ideal) (k0_pay8 cc) zz ww) x = eTile c XW XC x4 k ((Rect.unit (s := S2560x512) ![1408, 0] S128x512.size hi).emb x) := by
  subst hcc hzz hww
  obtain ⟨i, n, rfl⟩ : ∃ i n, x = ix2 i n := ⟨x 0, x 1, by funext a; fin_cases a <;> rfl⟩
  exact band_hi c XW XC x4 k 1 i n _ _ _ _ (read_w c XW k _ 1408 (by omega) (k0_off20_eq k) hb i n)
    (read_c c XC k _ 128 (by omega) (k0_off16_eq k) hc i n) (read_z k _ 11 (k0_off19_eq k) hz n x4) (hi_1 _ _ _ i n) _
    (by simp) (by simp)

/-- Group 1 of the lower rows, over any names of its three loads. -/
theorem piece_lo_1 (k : Trip) (cc zz ww hb hc hz hi)
    (hcc : cc = View.readAt (Elt Ideal) (Memref.whole cc0_scratch6).view (Rect.unit (s := S4x1280x512) (k0_off16 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off17 k) S1x512.size hz).toLoadRect x4)
    (hww : ww = View.readAt (Elt Ideal) (Memref.whole cc0_scratch5).view (Rect.unit (s := S4x2560x512) (k0_off18 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay10 (F := Ideal) (k0_pay9 cc zz) ww) x = eTile c XW XC x4 k ((Rect.unit (s := S2560x512) ![128, 0] S128x512.size hi).emb x) := by
  subst hcc hzz hww
  obtain ⟨i, n, rfl⟩ : ∃ i n, x = ix2 i n := ⟨x 0, x 1, by funext a; fin_cases a <;> rfl⟩
  exact band_lo c XW XC x4 k 1 i n _ _ _ _ (read_w c XW k _ 128 (by omega) (k0_off18_eq k) hb i n)
    (read_c c XC k _ 128 (by omega) (k0_off16_eq k) hc i n) (read_z k _ 1 (k0_off17_eq k) hz n x4) (lo_1 _ _ _ i n) _
    (by simp) (by simp)

/-- Group 2 of the upper rows, over any names of its three loads. -/
theorem piece_hi_2 (k : Trip) (cc zz ww hb hc hz hi)
    (hcc : cc = View.readAt (Elt Ideal) (Memref.whole cc0_scratch6).view (Rect.unit (s := S4x1280x512) (k0_off21 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off24 k) S1x512.size hz).toLoadRect x4)
    (hww : ww = View.readAt (Elt Ideal) (Memref.whole cc0_scratch5).view (Rect.unit (s := S4x2560x512) (k0_off25 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay16 (F := Ideal) (k0_pay13 cc) zz ww) x = eTile c XW XC x4 k ((Rect.unit (s := S2560x512) ![1536, 0] S128x512.size hi).emb x) := by
  subst hcc hzz hww
  obtain ⟨i, n, rfl⟩ : ∃ i n, x = ix2 i n := ⟨x 0, x 1, by funext a; fin_cases a <;> rfl⟩
  exact band_hi c XW XC x4 k 2 i n _ _ _ _ (read_w c XW k _ 1536 (by omega) (k0_off25_eq k) hb i n)
    (read_c c XC k _ 256 (by omega) (k0_off21_eq k) hc i n) (read_z k _ 12 (k0_off24_eq k) hz n x4) (hi_2 _ _ _ i n) _
    (by simp) (by simp)

/-- Group 2 of the lower rows, over any names of its three loads. -/
theorem piece_lo_2 (k : Trip) (cc zz ww hb hc hz hi)
    (hcc : cc = View.readAt (Elt Ideal) (Memref.whole cc0_scratch6).view (Rect.unit (s := S4x1280x512) (k0_off21 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off22 k) S1x512.size hz).toLoadRect x4)
    (hww : ww = View.readAt (Elt Ideal) (Memref.whole cc0_scratch5).view (Rect.unit (s := S4x2560x512) (k0_off23 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay15 (F := Ideal) (k0_pay14 cc zz) ww) x = eTile c XW XC x4 k ((Rect.unit (s := S2560x512) ![256, 0] S128x512.size hi).emb x) := by
  subst hcc hzz hww
  obtain ⟨i, n, rfl⟩ : ∃ i n, x = ix2 i n := ⟨x 0, x 1, by funext a; fin_cases a <;> rfl⟩
  exact band_lo c XW XC x4 k 2 i n _ _ _ _ (read_w c XW k _ 256 (by omega) (k0_off23_eq k) hb i n)
    (read_c c XC k _ 256 (by omega) (k0_off21_eq k) hc i n) (read_z k _ 2 (k0_off22_eq k) hz n x4) (lo_2 _ _ _ i n) _
    (by simp) (by simp)

/-- Group 3 of the upper rows, over any names of its three loads. -/
theorem piece_hi_3 (k : Trip) (cc zz ww hb hc hz hi)
    (hcc : cc = View.readAt (Elt Ideal) (Memref.whole cc0_scratch6).view (Rect.unit (s := S4x1280x512) (k0_off26 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off29 k) S1x512.size hz).toLoadRect x4)
    (hww : ww = View.readAt (Elt Ideal) (Memref.whole cc0_scratch5).view (Rect.unit (s := S4x2560x512) (k0_off30 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay21 (F := Ideal) (k0_pay18 cc) zz ww) x = eTile c XW XC x4 k ((Rect.unit (s := S2560x512) ![1664, 0] S128x512.size hi).emb x) := by
  subst hcc hzz hww
  obtain ⟨i, n, rfl⟩ : ∃ i n, x = ix2 i n := ⟨x 0, x 1, by funext a; fin_cases a <;> rfl⟩
  exact band_hi c XW XC x4 k 3 i n _ _ _ _ (read_w c XW k _ 1664 (by omega) (k0_off30_eq k) hb i n)
    (read_c c XC k _ 384 (by omega) (k0_off26_eq k) hc i n) (read_z k _ 13 (k0_off29_eq k) hz n x4) (hi_3 _ _ _ i n) _
    (by simp) (by simp)

/-- Group 3 of the lower rows, over any names of its three loads. -/
theorem piece_lo_3 (k : Trip) (cc zz ww hb hc hz hi)
    (hcc : cc = View.readAt (Elt Ideal) (Memref.whole cc0_scratch6).view (Rect.unit (s := S4x1280x512) (k0_off26 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off27 k) S1x512.size hz).toLoadRect x4)
    (hww : ww = View.readAt (Elt Ideal) (Memref.whole cc0_scratch5).view (Rect.unit (s := S4x2560x512) (k0_off28 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay20 (F := Ideal) (k0_pay19 cc zz) ww) x = eTile c XW XC x4 k ((Rect.unit (s := S2560x512) ![384, 0] S128x512.size hi).emb x) := by
  subst hcc hzz hww
  obtain ⟨i, n, rfl⟩ : ∃ i n, x = ix2 i n := ⟨x 0, x 1, by funext a; fin_cases a <;> rfl⟩
  exact band_lo c XW XC x4 k 3 i n _ _ _ _ (read_w c XW k _ 384 (by omega) (k0_off28_eq k) hb i n)
    (read_c c XC k _ 384 (by omega) (k0_off26_eq k) hc i n) (read_z k _ 3 (k0_off27_eq k) hz n x4) (lo_3 _ _ _ i n) _
    (by simp) (by simp)

/-- Group 4 of the upper rows, over any names of its three loads. -/
theorem piece_hi_4 (k : Trip) (cc zz ww hb hc hz hi)
    (hcc : cc = View.readAt (Elt Ideal) (Memref.whole cc0_scratch6).view (Rect.unit (s := S4x1280x512) (k0_off31 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off34 k) S1x512.size hz).toLoadRect x4)
    (hww : ww = View.readAt (Elt Ideal) (Memref.whole cc0_scratch5).view (Rect.unit (s := S4x2560x512) (k0_off35 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay26 (F := Ideal) (k0_pay23 cc) zz ww) x = eTile c XW XC x4 k ((Rect.unit (s := S2560x512) ![1792, 0] S128x512.size hi).emb x) := by
  subst hcc hzz hww
  obtain ⟨i, n, rfl⟩ : ∃ i n, x = ix2 i n := ⟨x 0, x 1, by funext a; fin_cases a <;> rfl⟩
  exact band_hi c XW XC x4 k 4 i n _ _ _ _ (read_w c XW k _ 1792 (by omega) (k0_off35_eq k) hb i n)
    (read_c c XC k _ 512 (by omega) (k0_off31_eq k) hc i n) (read_z k _ 14 (k0_off34_eq k) hz n x4) (hi_4 _ _ _ i n) _
    (by simp) (by simp)

/-- Group 4 of the lower rows, over any names of its three loads. -/
theorem piece_lo_4 (k : Trip) (cc zz ww hb hc hz hi)
    (hcc : cc = View.readAt (Elt Ideal) (Memref.whole cc0_scratch6).view (Rect.unit (s := S4x1280x512) (k0_off31 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off32 k) S1x512.size hz).toLoadRect x4)
    (hww : ww = View.readAt (Elt Ideal) (Memref.whole cc0_scratch5).view (Rect.unit (s := S4x2560x512) (k0_off33 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay25 (F := Ideal) (k0_pay24 cc zz) ww) x = eTile c XW XC x4 k ((Rect.unit (s := S2560x512) ![512, 0] S128x512.size hi).emb x) := by
  subst hcc hzz hww
  obtain ⟨i, n, rfl⟩ : ∃ i n, x = ix2 i n := ⟨x 0, x 1, by funext a; fin_cases a <;> rfl⟩
  exact band_lo c XW XC x4 k 4 i n _ _ _ _ (read_w c XW k _ 512 (by omega) (k0_off33_eq k) hb i n)
    (read_c c XC k _ 512 (by omega) (k0_off31_eq k) hc i n) (read_z k _ 4 (k0_off32_eq k) hz n x4) (lo_4 _ _ _ i n) _
    (by simp) (by simp)

/-- Group 5 of the upper rows, over any names of its three loads. -/
theorem piece_hi_5 (k : Trip) (cc zz ww hb hc hz hi)
    (hcc : cc = View.readAt (Elt Ideal) (Memref.whole cc0_scratch6).view (Rect.unit (s := S4x1280x512) (k0_off36 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off39 k) S1x512.size hz).toLoadRect x4)
    (hww : ww = View.readAt (Elt Ideal) (Memref.whole cc0_scratch5).view (Rect.unit (s := S4x2560x512) (k0_off40 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay31 (F := Ideal) (k0_pay28 cc) zz ww) x = eTile c XW XC x4 k ((Rect.unit (s := S2560x512) ![1920, 0] S128x512.size hi).emb x) := by
  subst hcc hzz hww
  obtain ⟨i, n, rfl⟩ : ∃ i n, x = ix2 i n := ⟨x 0, x 1, by funext a; fin_cases a <;> rfl⟩
  exact band_hi c XW XC x4 k 5 i n _ _ _ _ (read_w c XW k _ 1920 (by omega) (k0_off40_eq k) hb i n)
    (read_c c XC k _ 640 (by omega) (k0_off36_eq k) hc i n) (read_z k _ 15 (k0_off39_eq k) hz n x4) (hi_5 _ _ _ i n) _
    (by simp) (by simp)

/-- Group 5 of the lower rows, over any names of its three loads. -/
theorem piece_lo_5 (k : Trip) (cc zz ww hb hc hz hi)
    (hcc : cc = View.readAt (Elt Ideal) (Memref.whole cc0_scratch6).view (Rect.unit (s := S4x1280x512) (k0_off36 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off37 k) S1x512.size hz).toLoadRect x4)
    (hww : ww = View.readAt (Elt Ideal) (Memref.whole cc0_scratch5).view (Rect.unit (s := S4x2560x512) (k0_off38 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay30 (F := Ideal) (k0_pay29 cc zz) ww) x = eTile c XW XC x4 k ((Rect.unit (s := S2560x512) ![640, 0] S128x512.size hi).emb x) := by
  subst hcc hzz hww
  obtain ⟨i, n, rfl⟩ : ∃ i n, x = ix2 i n := ⟨x 0, x 1, by funext a; fin_cases a <;> rfl⟩
  exact band_lo c XW XC x4 k 5 i n _ _ _ _ (read_w c XW k _ 640 (by omega) (k0_off38_eq k) hb i n)
    (read_c c XC k _ 640 (by omega) (k0_off36_eq k) hc i n) (read_z k _ 5 (k0_off37_eq k) hz n x4) (lo_5 _ _ _ i n) _
    (by simp) (by simp)

/-- Group 6 of the upper rows, over any names of its three loads. -/
theorem piece_hi_6 (k : Trip) (cc zz ww hb hc hz hi)
    (hcc : cc = View.readAt (Elt Ideal) (Memref.whole cc0_scratch6).view (Rect.unit (s := S4x1280x512) (k0_off41 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off44 k) S1x512.size hz).toLoadRect x4)
    (hww : ww = View.readAt (Elt Ideal) (Memref.whole cc0_scratch5).view (Rect.unit (s := S4x2560x512) (k0_off45 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay37 (F := Ideal) (k0_pay33 cc) zz ww) x = eTile c XW XC x4 k ((Rect.unit (s := S2560x512) ![2048, 0] S128x512.size hi).emb x) := by
  subst hcc hzz hww
  obtain ⟨i, n, rfl⟩ : ∃ i n, x = ix2 i n := ⟨x 0, x 1, by funext a; fin_cases a <;> rfl⟩
  exact band_hi c XW XC x4 k 6 i n _ _ _ _ (read_w c XW k _ 2048 (by omega) (k0_off45_eq k) hb i n)
    (read_c c XC k _ 768 (by omega) (k0_off41_eq k) hc i n) (read_z k _ 16 (k0_off44_eq k) hz n x4) (hi_6 _ _ _ i n) _
    (by simp) (by simp)

/-- Group 6 of the lower rows, over any names of its three loads. -/
theorem piece_lo_6 (k : Trip) (cc zz ww hb hc hz hi)
    (hcc : cc = View.readAt (Elt Ideal) (Memref.whole cc0_scratch6).view (Rect.unit (s := S4x1280x512) (k0_off41 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off42 k) S1x512.size hz).toLoadRect x4)
    (hww : ww = View.readAt (Elt Ideal) (Memref.whole cc0_scratch5).view (Rect.unit (s := S4x2560x512) (k0_off43 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay36 (F := Ideal) (k0_pay34 cc zz) (k0_pay35 ww)) x = eTile c XW XC x4 k ((Rect.unit (s := S2560x512) ![768, 0] S128x512.size hi).emb x) := by
  subst hcc hzz hww
  obtain ⟨i, n, rfl⟩ : ∃ i n, x = ix2 i n := ⟨x 0, x 1, by funext a; fin_cases a <;> rfl⟩
  exact band_lo c XW XC x4 k 6 i n _ _ _ _ (read_w c XW k _ 768 (by omega) (k0_off43_eq k) hb i n)
    (read_c c XC k _ 768 (by omega) (k0_off41_eq k) hc i n) (read_z k _ 6 (k0_off42_eq k) hz n x4) (lo_6 _ _ _ i n) _
    (by simp) (by simp)

/-- Group 7 of the upper rows, over any names of its three loads. -/
theorem piece_hi_7 (k : Trip) (cc zz ww hb hc hz hi)
    (hcc : cc = View.readAt (Elt Ideal) (Memref.whole cc0_scratch6).view (Rect.unit (s := S4x1280x512) (k0_off46 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off49 k) S1x512.size hz).toLoadRect x4)
    (hww : ww = View.readAt (Elt Ideal) (Memref.whole cc0_scratch5).view (Rect.unit (s := S4x2560x512) (k0_off50 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay42 (F := Ideal) (k0_pay39 cc) zz ww) x = eTile c XW XC x4 k ((Rect.unit (s := S2560x512) ![2176, 0] S128x512.size hi).emb x) := by
  subst hcc hzz hww
  obtain ⟨i, n, rfl⟩ : ∃ i n, x = ix2 i n := ⟨x 0, x 1, by funext a; fin_cases a <;> rfl⟩
  exact band_hi c XW XC x4 k 7 i n _ _ _ _ (read_w c XW k _ 2176 (by omega) (k0_off50_eq k) hb i n)
    (read_c c XC k _ 896 (by omega) (k0_off46_eq k) hc i n) (read_z k _ 17 (k0_off49_eq k) hz n x4) (hi_7 _ _ _ i n) _
    (by simp) (by simp)

/-- Group 7 of the lower rows, over any names of its three loads. -/
theorem piece_lo_7 (k : Trip) (cc zz ww hb hc hz hi)
    (hcc : cc = View.readAt (Elt Ideal) (Memref.whole cc0_scratch6).view (Rect.unit (s := S4x1280x512) (k0_off46 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off47 k) S1x512.size hz).toLoadRect x4)
    (hww : ww = View.readAt (Elt Ideal) (Memref.whole cc0_scratch5).view (Rect.unit (s := S4x2560x512) (k0_off48 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay41 (F := Ideal) (k0_pay40 cc zz ww)) x = eTile c XW XC x4 k ((Rect.unit (s := S2560x512) ![896, 0] S128x512.size hi).emb x) := by
  subst hcc hzz hww
  obtain ⟨i, n, rfl⟩ : ∃ i n, x = ix2 i n := ⟨x 0, x 1, by funext a; fin_cases a <;> rfl⟩
  exact band_lo c XW XC x4 k 7 i n _ _ _ _ (read_w c XW k _ 896 (by omega) (k0_off48_eq k) hb i n)
    (read_c c XC k _ 896 (by omega) (k0_off46_eq k) hc i n) (read_z k _ 7 (k0_off47_eq k) hz n x4) (lo_7 _ _ _ i n) _
    (by simp) (by simp)

/-- Group 8 of the upper rows, over any names of its three loads. -/
theorem piece_hi_8 (k : Trip) (cc zz ww hb hc hz hi)
    (hcc : cc = View.readAt (Elt Ideal) (Memref.whole cc0_scratch6).view (Rect.unit (s := S4x1280x512) (k0_off51 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off54 k) S1x512.size hz).toLoadRect x4)
    (hww : ww = View.readAt (Elt Ideal) (Memref.whole cc0_scratch5).view (Rect.unit (s := S4x2560x512) (k0_off55 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay47 (F := Ideal) (k0_pay44 cc) zz ww) x = eTile c XW XC x4 k ((Rect.unit (s := S2560x512) ![2304, 0] S128x512.size hi).emb x) := by
  subst hcc hzz hww
  obtain ⟨i, n, rfl⟩ : ∃ i n, x = ix2 i n := ⟨x 0, x 1, by funext a; fin_cases a <;> rfl⟩
  exact band_hi c XW XC x4 k 8 i n _ _ _ _ (read_w c XW k _ 2304 (by omega) (k0_off55_eq k) hb i n)
    (read_c c XC k _ 1024 (by omega) (k0_off51_eq k) hc i n) (read_z k _ 18 (k0_off54_eq k) hz n x4) (hi_8 _ _ _ i n) _
    (by simp) (by simp)

/-- Group 8 of the lower rows, over any names of its three loads. -/
theorem piece_lo_8 (k : Trip) (cc zz ww hb hc hz hi)
    (hcc : cc = View.readAt (Elt Ideal) (Memref.whole cc0_scratch6).view (Rect.unit (s := S4x1280x512) (k0_off51 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off52 k) S1x512.size hz).toLoadRect x4)
    (hww : ww = View.readAt (Elt Ideal) (Memref.whole cc0_scratch5).view (Rect.unit (s := S4x2560x512) (k0_off53 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay46 (F := Ideal) (k0_pay45 cc zz ww)) x = eTile c XW XC x4 k ((Rect.unit (s := S2560x512) ![1024, 0] S128x512.size hi).emb x) := by
  subst hcc hzz hww
  obtain ⟨i, n, rfl⟩ : ∃ i n, x = ix2 i n := ⟨x 0, x 1, by funext a; fin_cases a <;> rfl⟩
  exact band_lo c XW XC x4 k 8 i n _ _ _ _ (read_w c XW k _ 1024 (by omega) (k0_off53_eq k) hb i n)
    (read_c c XC k _ 1024 (by omega) (k0_off51_eq k) hc i n) (read_z k _ 8 (k0_off52_eq k) hz n x4) (lo_8 _ _ _ i n) _
    (by simp) (by simp)

/-- Group 9 of the upper rows, over any names of its three loads. -/
theorem piece_hi_9 (k : Trip) (cc zz ww hb hc hz hi)
    (hcc : cc = View.readAt (Elt Ideal) (Memref.whole cc0_scratch6).view (Rect.unit (s := S4x1280x512) (k0_off56 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off59 k) S1x512.size hz).toLoadRect x4)
    (hww : ww = View.readAt (Elt Ideal) (Memref.whole cc0_scratch5).view (Rect.unit (s := S4x2560x512) (k0_off60 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay52 (F := Ideal) (k0_pay49 cc) zz ww) x = eTile c XW XC x4 k ((Rect.unit (s := S2560x512) ![2432, 0] S128x512.size hi).emb x) := by
  subst hcc hzz hww
  obtain ⟨i, n, rfl⟩ : ∃ i n, x = ix2 i n := ⟨x 0, x 1, by funext a; fin_cases a <;> rfl⟩
  exact band_hi c XW XC x4 k 9 i n _ _ _ _ (read_w c XW k _ 2432 (by omega) (k0_off60_eq k) hb i n)
    (read_c c XC k _ 1152 (by omega) (k0_off56_eq k) hc i n) (read_z k _ 19 (k0_off59_eq k) hz n x4) (hi_9 _ _ _ i n) _
    (by simp) (by simp)

/-- Group 9 of the lower rows, over any names of its three loads. -/
theorem piece_lo_9 (k : Trip) (cc zz ww hb hc hz hi)
    (hcc : cc = View.readAt (Elt Ideal) (Memref.whole cc0_scratch6).view (Rect.unit (s := S4x1280x512) (k0_off56 k) S1x128x512.size hc).toLoadRect
      ((cS (Ring.sl 4 k.val)).view.writes (Elt Ideal) (cS (Ring.sl 4 k.val)).view.junk [⟨Rect.whole S1280x512, cWords c XC (Ring.bk 20 k.val)⟩]))
    (hzz : zz = View.readAt (Elt Ideal) (Memref.whole cc0_scratch4).view (Rect.unit (s := S20x10240) (k0_off57 k) S1x512.size hz).toLoadRect x4)
    (hww : ww = View.readAt (Elt Ideal) (Memref.whole cc0_scratch5).view (Rect.unit (s := S4x2560x512) (k0_off58 k) S1x128x512.size hb).toLoadRect
      ((wS (Ring.sl 4 k.val)).view.writes (Elt Ideal) (wS (Ring.sl 4 k.val)).view.junk [⟨Rect.whole S2560x512, wWords c XW (Ring.bk 20 k.val)⟩]))
    (x : S128x512.Idx) : (k0_pay51 (F := Ideal) (k0_pay50 cc zz ww)) x = eTile c XW XC x4 k ((Rect.unit (s := S2560x512) ![1152, 0] S128x512.size hi).emb x) := by
  subst hcc hzz hww
  obtain ⟨i, n, rfl⟩ : ∃ i n, x = ix2 i n := ⟨x 0, x 1, by funext a; fin_cases a <;> rfl⟩
  exact band_lo c XW XC x4 k 9 i n _ _ _ _ (read_w c XW k _ 1152 (by omega) (k0_off58_eq k) hb i n)
    (read_c c XC k _ 1152 (by omega) (k0_off56_eq k) hc i n) (read_z k _ 9 (k0_off57_eq k) hz n x4) (lo_9 _ _ _ i n) _
    (by simp) (by simp)

set_option maxHeartbeats 1000000 in
/-- Every piece the trip writes is a block of the tile. -/
theorem pieces (k : Trip) : View.PiecesOf (eTile c XW XC x4 k) (tripRun.sl.H8_20 (F := Ideal) c XW XC k x4) := by
  unfold tripRun.sl.H8_20
  exact ⟨piece_hi_9 c XW XC x4 k _ _ _ (k0_off60_inb k) (k0_off56_inb k) (k0_off59_inb k) inb_S2560x512_S128x512_2432_0 rfl rfl rfl,
    piece_lo_9 c XW XC x4 k _ _ _ (k0_off58_inb k) (k0_off56_inb k) (k0_off57_inb k) inb_S2560x512_S128x512_1152_0 rfl rfl rfl,
    piece_hi_8 c XW XC x4 k _ _ _ (k0_off55_inb k) (k0_off51_inb k) (k0_off54_inb k) inb_S2560x512_S128x512_2304_0 rfl rfl rfl,
    piece_lo_8 c XW XC x4 k _ _ _ (k0_off53_inb k) (k0_off51_inb k) (k0_off52_inb k) inb_S2560x512_S128x512_1024_0 rfl rfl rfl,
    piece_hi_7 c XW XC x4 k _ _ _ (k0_off50_inb k) (k0_off46_inb k) (k0_off49_inb k) inb_S2560x512_S128x512_2176_0 rfl rfl rfl,
    piece_lo_7 c XW XC x4 k _ _ _ (k0_off48_inb k) (k0_off46_inb k) (k0_off47_inb k) inb_S2560x512_S128x512_896_0 rfl rfl rfl,
    piece_hi_6 c XW XC x4 k _ _ _ (k0_off45_inb k) (k0_off41_inb k) (k0_off44_inb k) inb_S2560x512_S128x512_2048_0 rfl rfl rfl,
    piece_lo_6 c XW XC x4 k _ _ _ (k0_off43_inb k) (k0_off41_inb k) (k0_off42_inb k) inb_S2560x512_S128x512_768_0 rfl rfl rfl,
    piece_hi_5 c XW XC x4 k _ _ _ (k0_off40_inb k) (k0_off36_inb k) (k0_off39_inb k) inb_S2560x512_S128x512_1920_0 rfl rfl rfl,
    piece_lo_5 c XW XC x4 k _ _ _ (k0_off38_inb k) (k0_off36_inb k) (k0_off37_inb k) inb_S2560x512_S128x512_640_0 rfl rfl rfl,
    piece_hi_4 c XW XC x4 k _ _ _ (k0_off35_inb k) (k0_off31_inb k) (k0_off34_inb k) inb_S2560x512_S128x512_1792_0 rfl rfl rfl,
    piece_lo_4 c XW XC x4 k _ _ _ (k0_off33_inb k) (k0_off31_inb k) (k0_off32_inb k) inb_S2560x512_S128x512_512_0 rfl rfl rfl,
    piece_hi_3 c XW XC x4 k _ _ _ (k0_off30_inb k) (k0_off26_inb k) (k0_off29_inb k) inb_S2560x512_S128x512_1664_0 rfl rfl rfl,
    piece_lo_3 c XW XC x4 k _ _ _ (k0_off28_inb k) (k0_off26_inb k) (k0_off27_inb k) inb_S2560x512_S128x512_384_0 rfl rfl rfl,
    piece_hi_2 c XW XC x4 k _ _ _ (k0_off25_inb k) (k0_off21_inb k) (k0_off24_inb k) inb_S2560x512_S128x512_1536_0 rfl rfl rfl,
    piece_lo_2 c XW XC x4 k _ _ _ (k0_off23_inb k) (k0_off21_inb k) (k0_off22_inb k) inb_S2560x512_S128x512_256_0 rfl rfl rfl,
    piece_hi_1 c XW XC x4 k _ _ _ (k0_off20_inb k) (k0_off16_inb k) (k0_off19_inb k) inb_S2560x512_S128x512_1408_0 rfl rfl rfl,
    piece_lo_1 c XW XC x4 k _ _ _ (k0_off18_inb k) (k0_off16_inb k) (k0_off17_inb k) inb_S2560x512_S128x512_128_0 rfl rfl rfl,
    piece_hi_0 c XW XC x4 k _ _ _ (k0_off15_inb k) (k0_off11_inb k) (k0_off14_inb k) inb_S2560x512_S128x512_1280_0 rfl rfl rfl,
    piece_lo_0 c XW XC x4 k _ _ _ (k0_off13_inb k) (k0_off11_inb k) (k0_off12_inb k) inb_S2560x512_S128x512_0_0 rfl rfl rfl,
    trivial⟩

/-- The twenty groups cover the tile. -/
theorem cover (k : Trip) (y : S2560x512.Idx) : ∃ p ∈ tripRun.sl.H8_20 (F := Ideal) c XW XC k x4, y ∈ p.1.set := by
  unfold tripRun.sl.H8_20
  have h0 : (y 0).val < 2560 := (y 0).isLt
  have h1 : (y 1).val < 512 := (y 1).isLt
  by_cases g0 : 2432 ≤ (y 0).val ∧ (y 0).val < 2432 + 128
  · exact ⟨_, List.mem_cons_self, (Rect.mem_set_unit (inb := inb_S2560x512_S128x512_2432_0)).mpr
      (Fin.forall_fin_two.mpr ⟨g0, ⟨Nat.zero_le _, by show (y 1).val < 0 + 512; omega⟩⟩)⟩
  by_cases g1 : 1152 ≤ (y 0).val ∧ (y 0).val < 1152 + 128
  · exact ⟨_, List.mem_cons_of_mem _ (List.mem_cons_self), (Rect.mem_set_unit (inb := inb_S2560x512_S128x512_1152_0)).mpr
      (Fin.forall_fin_two.mpr ⟨g1, ⟨Nat.zero_le _, by show (y 1).val < 0 + 512; omega⟩⟩)⟩
  by_cases g2 : 2304 ≤ (y 0).val ∧ (y 0).val < 2304 + 128
  · exact ⟨_, List.mem_cons_of_mem _ (List.mem_cons_of_mem _ (List.mem_cons_self)), (Rect.mem_set_unit (inb := inb_S2560x512_S128x512_2304_0)).mpr
      (Fin.forall_fin_two.mpr ⟨g2, ⟨Nat.zero_le _, by show (y 1).val < 0 + 512; omega⟩⟩)⟩
  by_cases g3 : 1024 ≤ (y 0).val ∧ (y 0).val < 1024 + 128
  · exact ⟨_, List.mem_cons_of_mem _ (List.mem_cons_of_mem _ (List.mem_cons_of_mem _ (List.mem_cons_self))), (Rect.mem_set_unit (inb := inb_S2560x512_S128x512_1024_0)).mpr
      (Fin.forall_fin_two.mpr ⟨g3, ⟨Nat.zero_le _, by show (y 1).val < 0 + 512; omega⟩⟩)⟩
  by_cases g4 : 2176 ≤ (y 0).val ∧ (y 0).val < 2176 + 128
  · exact ⟨_, List.mem_cons_of_mem _ (List.mem_cons_of_mem _ (List.mem_cons_of_mem _ (List.mem_cons_of_mem _ (List.mem_cons_self)))), (Rect.mem_set_unit (inb := inb_S2560x512_S128x512_2176_0)).mpr
      (Fin.forall_fin_two.mpr ⟨g4, ⟨Nat.zero_le _, by show (y 1).val < 0 + 512; omega⟩⟩)⟩
  by_cases g5 : 896 ≤ (y 0).val ∧ (y 0).val < 896 + 128
  · exact ⟨_, List.mem_cons_of_mem _ (List.mem_cons_of_mem _ (List.mem_cons_of_mem _ (List.mem_cons_of_mem _ (List.mem_cons_of_mem _ (List.mem_cons_self))))), (Rect.mem_set_unit (inb := inb_S2560x512_S128x512_896_0)).mpr
      (Fin.forall_fin_two.mpr ⟨g5, ⟨Nat.zero_le _, by show (y 1).val < 0 + 512; omega⟩⟩)⟩
  by_cases g6 : 2048 ≤ (y 0).val ∧ (y 0).val < 2048 + 128
  · exact ⟨_, List.mem_cons_of_mem _ (List.mem_cons_of_mem _ (List.mem_cons_of_mem _ (List.mem_cons_of_mem _ (List.mem_cons_of_mem _ (List.mem_cons_of_mem _ (List.mem_cons_self)))))), (Rect.mem_set_unit (inb := inb_S2560x512_S128x512_2048_0)).mpr
      (Fin.forall_fin_two.mpr ⟨g6, ⟨Nat.zero_le _, by show (y 1).val < 0 + 512; omega⟩⟩)⟩
  by_cases g7 : 768 ≤ (y 0).val ∧ (y 0).val < 768 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (Rect.mem_set_unit (inb := inb_S2560x512_S128x512_768_0)).mpr
      (Fin.forall_fin_two.mpr ⟨g7, ⟨Nat.zero_le _, by show (y 1).val < 0 + 512; omega⟩⟩)⟩
  by_cases g8 : 1920 ≤ (y 0).val ∧ (y 0).val < 1920 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (Rect.mem_set_unit (inb := inb_S2560x512_S128x512_1920_0)).mpr
      (Fin.forall_fin_two.mpr ⟨g8, ⟨Nat.zero_le _, by show (y 1).val < 0 + 512; omega⟩⟩)⟩
  by_cases g9 : 640 ≤ (y 0).val ∧ (y 0).val < 640 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (Rect.mem_set_unit (inb := inb_S2560x512_S128x512_640_0)).mpr
      (Fin.forall_fin_two.mpr ⟨g9, ⟨Nat.zero_le _, by show (y 1).val < 0 + 512; omega⟩⟩)⟩
  by_cases g10 : 1792 ≤ (y 0).val ∧ (y 0).val < 1792 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (Rect.mem_set_unit (inb := inb_S2560x512_S128x512_1792_0)).mpr
      (Fin.forall_fin_two.mpr ⟨g10, ⟨Nat.zero_le _, by show (y 1).val < 0 + 512; omega⟩⟩)⟩
  by_cases g11 : 512 ≤ (y 0).val ∧ (y 0).val < 512 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (Rect.mem_set_unit (inb := inb_S2560x512_S128x512_512_0)).mpr
      (Fin.forall_fin_two.mpr ⟨g11, ⟨Nat.zero_le _, by show (y 1).val < 0 + 512; omega⟩⟩)⟩
  by_cases g12 : 1664 ≤ (y 0).val ∧ (y 0).val < 1664 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (Rect.mem_set_unit (inb := inb_S2560x512_S128x512_1664_0)).mpr
      (Fin.forall_fin_two.mpr ⟨g12, ⟨Nat.zero_le _, by show (y 1).val < 0 + 512; omega⟩⟩)⟩
  by_cases g13 : 384 ≤ (y 0).val ∧ (y 0).val < 384 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (Rect.mem_set_unit (inb := inb_S2560x512_S128x512_384_0)).mpr
      (Fin.forall_fin_two.mpr ⟨g13, ⟨Nat.zero_le _, by show (y 1).val < 0 + 512; omega⟩⟩)⟩
  by_cases g14 : 1536 ≤ (y 0).val ∧ (y 0).val < 1536 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (Rect.mem_set_unit (inb := inb_S2560x512_S128x512_1536_0)).mpr
      (Fin.forall_fin_two.mpr ⟨g14, ⟨Nat.zero_le _, by show (y 1).val < 0 + 512; omega⟩⟩)⟩
  by_cases g15 : 256 ≤ (y 0).val ∧ (y 0).val < 256 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (Rect.mem_set_unit (inb := inb_S2560x512_S128x512_256_0)).mpr
      (Fin.forall_fin_two.mpr ⟨g15, ⟨Nat.zero_le _, by show (y 1).val < 0 + 512; omega⟩⟩)⟩
  by_cases g16 : 1408 ≤ (y 0).val ∧ (y 0).val < 1408 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), (Rect.mem_set_unit (inb := inb_S2560x512_S128x512_1408_0)).mpr
      (Fin.forall_fin_two.mpr ⟨g16, ⟨Nat.zero_le _, by show (y 1).val < 0 + 512; omega⟩⟩)⟩
  by_cases g17 : 128 ≤ (y 0).val ∧ (y 0).val < 128 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), (Rect.mem_set_unit (inb := inb_S2560x512_S128x512_128_0)).mpr
      (Fin.forall_fin_two.mpr ⟨g17, ⟨Nat.zero_le _, by show (y 1).val < 0 + 512; omega⟩⟩)⟩
  by_cases g18 : 1280 ≤ (y 0).val ∧ (y 0).val < 1280 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), (Rect.mem_set_unit (inb := inb_S2560x512_S128x512_1280_0)).mpr
      (Fin.forall_fin_two.mpr ⟨g18, ⟨Nat.zero_le _, by show (y 1).val < 0 + 512; omega⟩⟩)⟩
  by_cases g19 : 0 ≤ (y 0).val ∧ (y 0).val < 0 + 128
  · exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), (Rect.mem_set_unit (inb := inb_S2560x512_S128x512_0_0)).mpr
      (Fin.forall_fin_two.mpr ⟨g19, ⟨Nat.zero_le _, by show (y 1).val < 0 + 512; omega⟩⟩)⟩
  omega

/-- THE TILE a trip makes. -/
theorem eOf_tile (k : Trip) : eOf (F := Ideal) c XW XC x4 k = eTile c XW XC x4 k := by
  rw [eOf_eq]
  unfold tripRun.sl.v572
  rw [View.readCov_eq_canon']
  funext j
  have h : (Rect.unit (s := S2560x512) ![0, 0] S2560x512.size inb_S2560x512_S2560x512_0_0).toLoadRect.idx j = j := by
    funext a; apply Fin.ext; fin_cases a <;> simp
  refine (congrArg _ h).trans ?_
  have e := View.canon_append_of_piecesOf (eTile c XW XC x4 k) [] _ (pieces c XW XC x4 k) j (cover c XW XC x4 k j)
  rwa [List.append_nil] at e

end Cert.Proof.K
-- ==== Proof.Tile.lean ====
module

public import proofs.«01_k».proof.Proof.Gen.KernelIdeal.Skeleton
public import Idealize.ShloMosaic.Lib.Pointwise

@[expose] public section

noncomputable section

namespace Cert.Proof.K

open Cert.KernelIdeal Cert.KernelIdeal.Gen
open Idealize.ShloMosaic

/-- The residual of a tile at row `t`, column `n`. -/
def rT (X : FVec Ideal S256x2560 .bf16) (E : FVec Ideal S2560x512 .bf16) (B : FVec Ideal S48x512 .bf16) (P : FVec Ideal S256x48 .bf16)
    (s : Fin 256 → EReal) (t : Fin 256) (n : Fin 512) : EReal :=
  (∑ k : Fin 2560, X (ix2 t k) * E (ix2 k n)) * s t - ∑ r : Fin 48, P (ix2 t r) * B (ix2 r n)

section
variable (X : FVec Ideal S256x2560 .bf16) (E : FVec Ideal S2560x512 .bf16) (B : FVec Ideal S48x512 .bf16) (P : FVec Ideal S256x48 .bf16)
  (S : FVec Ideal S256x128 .f32) (s : Fin 256 → EReal) (hS : ∀ t l, S (ix2 t l) = s t)
include hS

theorem slab0 (t : Fin 256) (l : Fin 128) : k0_pay55 (F := Ideal) X E B P S (ix2 t l) = rT X E B P s t ⟨l.val, by omega⟩ := by
  unfold rT
  rw [← hS t l]
  pointwise [k0_pay55, k0_pay53, k0_pay54]
theorem slab1 (t : Fin 256) (l : Fin 128) : k0_pay57 (F := Ideal) X E B P S (ix2 t l) = rT X E B P s t ⟨128 + l.val, by omega⟩ := by
  unfold rT
  rw [← hS t l]
  pointwise [k0_pay57, k0_pay53, k0_pay54]
theorem slab2 (t : Fin 256) (l : Fin 128) : k0_pay60 (F := Ideal) (k0_pay53 X E) (k0_pay54 B P) S (ix2 t l) = rT X E B P s t ⟨256 + l.val, by omega⟩ := by
  unfold rT
  rw [← hS t l]
  pointwise [k0_pay60, k0_pay53, k0_pay54]
theorem slab3 (t : Fin 256) (l : Fin 128) : k0_pay61 (F := Ideal) (k0_pay53 X E) (k0_pay54 B P) S (ix2 t l) = rT X E B P s t ⟨384 + l.val, by omega⟩ := by
  unfold rT
  rw [← hS t l]
  pointwise [k0_pay61, k0_pay53, k0_pay54]

theorem rb_apply (t : Fin 256) (n : Fin 512) :
    k0_pay63 (F := Ideal) (k0_pay53 X E) (k0_pay54 B P) (k0_pay56 X E B P S) (k0_pay59 X E B P S) S S (ix2 t n) = rT X E B P s t n := by
  unfold k0_pay63 k0_pay56 k0_pay59
  pointwise
  simp only [slab0 X E B P S s hS, slab1 X E B P S s hS, slab2 X E B P S s hS, slab3 X E B P S s hS]
  have hn := n.isLt
  split_ifs
  all_goals first | rfl | exact congrArg _ (Fin.ext (by simp only []; omega))

theorem loss_apply (L : FVec Ideal S256x128 .f32) (t : Fin 256) (l : Fin 128) :
    k0_pay62 (F := Ideal) (k0_pay53 X E) (k0_pay54 B P) (k0_pay58 X E B P S S) S S L (ix2 t l)
      = L (ix2 t l) + (rT X E B P s t ⟨l.val, by omega⟩ * rT X E B P s t ⟨l.val, by omega⟩
        + rT X E B P s t ⟨128 + l.val, by omega⟩ * rT X E B P s t ⟨128 + l.val, by omega⟩
        + rT X E B P s t ⟨256 + l.val, by omega⟩ * rT X E B P s t ⟨256 + l.val, by omega⟩
        + rT X E B P s t ⟨384 + l.val, by omega⟩ * rT X E B P s t ⟨384 + l.val, by omega⟩) := by
  rw [← slab0 X E B P S s hS t l, ← slab1 X E B P S s hS t l, ← slab2 X E B P S s hS t l, ← slab3 X E B P S s hS t l]
  pointwise [k0_pay62, k0_pay58]

theorem gt_apply (G : FVec Ideal S48x256 .f32) (r : Fin 48) (t : Fin 256) :
    k0_pay64 (F := Ideal) (k0_pay53 X E) B (k0_pay54 B P) (k0_pay56 X E B P S) (k0_pay59 X E B P S) S S G (ix2 r t)
      = G (ix2 r t) + ∑ n : Fin 512, B (ix2 r n) * rT X E B P s t n := by
  have h := fun n => rb_apply X E B P S s hS t n
  unfold k0_pay64
  pointwise
  simp only [h]

theorem db_apply (T : FVec Ideal S48x256 .bf16) (r : Fin 48) (n : Fin 512) :
    k0_pay65 (F := Ideal) (k0_pay53 X E) (k0_pay54 B P) (k0_pay56 X E B P S) (k0_pay59 X E B P S) S S T (ix2 r n)
      = Ideal.ofBits .f32 0xC0000000#32 * ∑ t : Fin 256, T (ix2 r t) * rT X E B P s t n := by
  have h := fun t => rb_apply X E B P S s hS t n
  unfold k0_pay65
  pointwise
  simp only [h]
end
end Cert.Proof.K
-- ==== Proof.KerVal.lean ====
/-
  What the kernel's buffers hold before its loop, index by index, and the sums its loop's trips accumulate.
-/
module

public import proofs.«01_k».proof.Proof.ETile
public import proofs.«01_k».proof.Proof.Tile
public import proofs.«01_k».proof.Proof.Body

@[expose] public section

noncomputable section

namespace Cert.Proof.K

open Cert.KernelIdeal Cert.KernelIdeal.Gen
open Idealize.ShloMosaic
open Idealize.ShloMosaic.TcCoe

/-- Twenty additions from zero are the sum of the twenty terms. -/
theorem fold_sum (a : ℕ → EReal) (g : Fin 20 → EReal) (h0 : a 0 = 0) (hs : ∀ k : Fin 20, a (k.val + 1) = a k.val + g k) : a 20 = ∑ k : Fin 20, g k := by
  have h : ∀ K, K ≤ 20 → a K = ∑ k ∈ Finset.range K, if h : k < 20 then g ⟨k, h⟩ else 0 := by
    intro K
    induction K with
    | zero => intro _; simpa using h0
    | succ K ih =>
      intro hK
      rw [Finset.sum_range_succ, ← ih (by omega), dif_pos (show K < 20 by omega)]
      exact hs ⟨K, by omega⟩
  rw [h 20 le_rfl, Finset.sum_range]
  exact Finset.sum_congr rfl fun k _ => by rw [dif_pos k.isLt]

section Operands
variable (I0 : Vec Ideal S256x2560 .fp8e4m3) (I1 : Vec Ideal S2x128 .f32) (I5 : Vec Ideal S2560x48 .bf16)

/-- The scale of row `t`. -/
def sK (t : Fin 256) : EReal := I1 (ix2 ⟨t.val / 128, by omega⟩ ⟨t.val % 128, by omega⟩)

theorem vX_apply (t : Fin 256) (d : Fin 2560) : vX (F := Ideal) I0 (ix2 t d) = I0 (ix2 t d) := by
  unfold vX
  pointwise [k0_pay66, k0_pay67]

theorem vS0_apply (l : Fin 128) : vS0 (F := Ideal) I1 (ix2 0 l) = I1 (ix2 0 l) := by
  unfold vS0
  refine congrArg I1 ?_
  funext a; apply Fin.ext; fin_cases a <;> simp
theorem vS1_apply (l : Fin 128) : vS1 (F := Ideal) I1 (ix2 0 l) = I1 (ix2 1 l) := by
  unfold vS1
  refine congrArg I1 ?_
  funext a; apply Fin.ext; fin_cases a <;> simp

theorem pay68_apply (i l : Fin 128) (v : Vec Ideal S1x128 .f32) : k0_pay68 (F := Ideal) v (ix2 i l) = v (ix2 0 i) := by
  pointwise [k0_pay68]
theorem pay69_apply (i l : Fin 128) (v : Vec Ideal S1x128 .f32) : k0_pay69 (F := Ideal) v (ix2 i l) = v (ix2 0 i) := by
  pointwise [k0_pay69]

/-- Each row of the scales' buffer is its row's scale throughout. -/
theorem vS_apply (t : Fin 256) (l : Fin 128) : vS (F := Ideal) I1 (ix2 t l) = sK I1 t := by
  have hp : View.PiecesOf (Val := Elt Ideal) (e := .f32) (fun j : S256x128.Idx => sK I1 (j 0))
      [⟨Rect.unit (s := S256x128) ![128, 0] S128x128.size inb_S256x128_S128x128_128_0, k0_pay69 (vS1 I1)⟩,
       ⟨Rect.unit (s := S256x128) ![0, 0] S128x128.size inb_S256x128_S128x128_0_0, k0_pay68 (vS0 I1)⟩] := by
    refine ⟨fun x => ?_, fun x => ?_, trivial⟩
    · obtain ⟨i, l, rfl⟩ : ∃ (i l : Fin 128), x = ix2 i l := ⟨x 0, x 1, by funext a; fin_cases a <;> rfl⟩
      refine (pay69_apply i l _).trans ((vS1_apply I1 i).trans ?_)
      refine congrArg I1 ?_
      funext a; apply Fin.ext; fin_cases a
      · simp
      · simp; omega
    · obtain ⟨i, l, rfl⟩ : ∃ (i l : Fin 128), x = ix2 i l := ⟨x 0, x 1, by funext a; fin_cases a <;> rfl⟩
      refine (pay68_apply i l _).trans ((vS0_apply I1 i).trans ?_)
      refine congrArg I1 ?_
      funext a; apply Fin.ext; fin_cases a
      · simp; omega
      · simp; omega
  have e := View.canon_append_of_piecesOf _ [] _ hp (ix2 t l) (rows256_cover _ _ (ix2 t l))
  rw [List.append_nil] at e
  exact e

theorem vS48_apply (t : Fin 256) (r : Fin 48) : vS48 (F := Ideal) I1 (ix2 t r) = sK I1 t := by
  unfold vS48
  refine (congrArg (vS I1) ?_).trans (vS_apply I1 t ⟨r.val, by omega⟩)
  funext a; apply Fin.ext; fin_cases a <;> simp

/-- The rows of `x`. -/
abbrev kX := fun (t : Fin 256) (d : Fin 2560) => (I0 (ix2 t d) : EReal)
/-- The projection. -/
abbrev kP := pM (kX I0) (sK I1) (fun d r => I5 (ix2 d r))

theorem pay71_apply (x : FVec Ideal S256x2560 .bf16) (s : Vec Ideal S256x48 .f32) (t : Fin 256) (r : Fin 48) :
    k0_pay71 (F := Ideal) x I5 s (ix2 t r) = (∑ d : Fin 2560, x (ix2 t d) * I5 (ix2 d r)) * s (ix2 t r) := by
  pointwise [k0_pay71, k0_pay70]
theorem pay72_apply (x : FVec Ideal S256x2560 .bf16) (s : Vec Ideal S256x48 .f32) (t : Fin 256) (r : Fin 48) :
    k0_pay72 (F := Ideal) x I5 s (ix2 r t) = (∑ d : Fin 2560, x (ix2 t d) * I5 (ix2 d r)) * s (ix2 t r) := by
  pointwise [k0_pay72, k0_pay70]

theorem vP_apply (t : Fin 256) (r : Fin 48) : vP (F := Ideal) I0 I1 I5 (ix2 t r) = kP I0 I1 I5 t r := by
  unfold vP kP pM
  rw [pay71_apply, vS48_apply]
  simp only [vX_apply]

theorem vT_apply (r : Fin 48) (t : Fin 256) : vT (F := Ideal) I0 I1 I5 (ix2 r t) = kP I0 I1 I5 t r := by
  unfold vT kP pM
  rw [pay72_apply, vS48_apply]
  simp only [vX_apply]

end Operands

/-! ## The loads of the loop -/

section Loads
variable (c : Dev nD)

theorem ld7_rep (v : FVec Ideal S256x2560 .bf16) : ld7 (F := Ideal) c ((Memref.whole cc0_scratch7).view.rep v) = v := by
  unfold ld7; rw [View.readAt_rep]; funext j; refine congrArg v ?_; funext a; apply Fin.ext; fin_cases a <;> simp
theorem ld9_rep (v : FVec Ideal S256x128 .f32) : ld9 (F := Ideal) c ((Memref.whole cc0_scratch9).view.rep v) = v := by
  unfold ld9; rw [View.readAt_rep]; funext j; refine congrArg v ?_; funext a; apply Fin.ext; fin_cases a <;> simp
theorem ld10_rep (v : FVec Ideal S256x48 .bf16) : ld10 (F := Ideal) c ((Memref.whole cc0_scratch10).view.rep v) = v := by
  unfold ld10; rw [View.readAt_rep]; funext j; refine congrArg v ?_; funext a; apply Fin.ext; fin_cases a <;> simp
theorem ld11_rep (v : FVec Ideal S48x256 .bf16) : ld11 (F := Ideal) c ((Memref.whole cc0_scratch11).view.rep v) = v := by
  unfold ld11; rw [View.readAt_rep]; funext j; refine congrArg v ?_; funext a; apply Fin.ext; fin_cases a <;> simp

theorem ld12_st12 (x w) : ld12 (F := Ideal) c (st12 c x w) = w := View.read_write_univ (v := (Memref.whole cc0_scratch12).view.slice (Rect.unit (s := S256x128) ![0, 0] S256x128.size inb_S256x128_S256x128_0_0)) x w
theorem ld13_st13 (x w) : ld13 (F := Ideal) c (st13 c x w) = w := View.read_write_univ (v := (Memref.whole cc0_scratch13).view.slice (Rect.unit (s := S48x256) ![0, 0] S48x256.size inb_S48x256_S48x256_0_0)) x w
theorem ld12_b12 : ld12 (F := Ideal) c (b12 c) = k0_pay73 := View.read_write_univ (v := (Memref.whole cc0_scratch12).view.slice (Rect.unit (s := S256x128) ![0, 0] S256x128.size inb_S256x128_S256x128_0_0)) _ _
theorem ld13_b13 : ld13 (F := Ideal) c (b13 c) = k0_pay74 := View.read_write_univ (v := (Memref.whole cc0_scratch13).view.slice (Rect.unit (s := S48x256) ![0, 0] S48x256.size inb_S48x256_S48x256_0_0)) _ _
theorem pay73_apply (t : Fin 256) (l : Fin 128) : k0_pay73 (F := Ideal) (ix2 t l) = 0 := by
  pointwise [k0_pay73]
theorem pay74_apply (r : Fin 48) (t : Fin 256) : k0_pay74 (F := Ideal) (ix2 r t) = 0 := by
  pointwise [k0_pay74]
end Loads

/-! ## The residual, and the accumulators -/

section Sums
variable (c : Dev nD) (XW : Buf (Elt Ideal) (wHbm.view.loc (c : Thread nD τ))) (XC : Buf (Elt Ideal) (cHbm.view.loc (c : Thread nD τ)))
  (X0 : Buf (Elt Ideal) ((Memref.whole main_v0).view.loc (c : Thread nD τ)))
  (X1 : Buf (Elt Ideal) ((Memref.whole main_arg1).view.loc (c : Thread nD τ)))
  (X4 : Buf (Elt Ideal) ((Memref.whole main_arg4).view.loc (c : Thread nD τ)))
  (X5 : Buf (Elt Ideal) ((Memref.whole main_arg5).view.loc (c : Thread nD τ)))
  (X6 : Buf (Elt Ideal) ((Memref.whole main_arg6).view.loc (c : Thread nD τ)))

/-- The operands read. -/
abbrev i0 : Vec Ideal S256x2560 .fp8e4m3 := (Memref.whole main_v0).view.read (Elt Ideal) X0
abbrev i1 : Vec Ideal S2x128 .f32 := (Memref.whole main_arg1).view.read (Elt Ideal) X1
abbrev i4 : Vec Ideal S20x10240 .bf16 := (Memref.whole main_arg4).view.read (Elt Ideal) X4
abbrev i5 : Vec Ideal S2560x48 .bf16 := (Memref.whole main_arg5).view.read (Elt Ideal) X5
abbrev i6 : Vec Ideal S48x10240 .bf16 := (Memref.whole main_arg6).view.read (Elt Ideal) X6
/-- The error, the tile `b`, the projection and the residual of the operands. -/
def mE : Fin 2560 → Fin 10240 → EReal := errM (kW c XW) (kC c XC) (fun g n => i4 c X4 (ix2 g n))
def mB : Fin 48 → Fin 10240 → EReal := fun r n => i6 c X6 (ix2 r n)
def mP : Fin 256 → Fin 48 → EReal := kP (i0 c X0) (i1 c X1) (i5 c X5)
def mR : Fin 256 → Fin 10240 → EReal := rM (kX (i0 c X0)) (sK (i1 c X1)) (mE c XW XC X4) (mP c X0 X1 X5) (mB c X6)

theorem eTile_apply (k : Trip) (d : Fin 2560) (n : Fin 512) : eTile c XW XC (b4 c X4) k (ix2 d n) = mE c XW XC X4 d (col k n) := by
  show errM (kW c XW) (kC c XC) (kZ c (b4 c X4)) d (col k n) = _
  unfold mE kZ b4
  rw [View.read_rep]

theorem ld3_apply (k : Trip) (r : Fin 48) (n : Fin 512) : ld3 (F := Ideal) c k (b3 c X6) (ix2 r n) = mB c X6 r (col k n) := by
  refine (read_b c k _ r n).trans ?_
  unfold mB b3
  rw [View.read_rep]

/-- The scales' rows, loaded. -/
theorem ld9_apply (t : Fin 256) (l : Fin 128) : ld9 (F := Ideal) c (b9 c X1) (ix2 t l) = sK (i1 c X1) t := by
  unfold b9
  rw [ld9_rep]
  exact vS_apply _ t l

/-- The residual of a trip's tile is the residual at the tile's columns. -/
theorem rT_eq (k : Trip) (t : Fin 256) (n : Fin 512) :
    rT (ld7 c (b7 c X0)) (eOf c XW XC (b4 c X4) k) (ld3 c k (b3 c X6)) (ld10 c (b10 c X0 X1 X5)) (sK (i1 c X1)) t n
      = mR c XW XC X0 X1 X4 X5 X6 t (col k n) := by
  unfold rT mR rM b7 b10
  rw [eOf_tile, ld7_rep, ld10_rep]
  simp only [eTile_apply, ld3_apply, vX_apply, vP_apply]
  rfl

/-- What a trip adds to a lane of the sums of squares. -/
def lane (k : Fin 20) (t : Fin 256) (l : Fin 128) : EReal :=
  ∑ q : Fin 4, mR c XW XC X0 X1 X4 X5 X6 t ⟨512 * k.val + (128 * q.val + l.val), by omega⟩ * mR c XW XC X0 X1 X4 X5 X6 t ⟨512 * k.val + (128 * q.val + l.val), by omega⟩

theorem loss_step (k : Fin 20) (L : FVec Ideal S256x128 .f32) (t : Fin 256) (l : Fin 128) :
    lossVal (ld7 c (b7 c X0)) (eOf c XW XC (b4 c X4) (tripOf k)) (ld3 c (tripOf k) (b3 c X6)) (ld10 c (b10 c X0 X1 X5)) (ld9 c (b9 c X1)) L (ix2 t l)
      = L (ix2 t l) + lane c XW XC X0 X1 X4 X5 X6 k t l := by
  unfold lossVal
  refine (loss_apply _ _ _ _ _ (sK (i1 c X1)) (ld9_apply c X1) L t l).trans ?_
  unfold lane
  rw [Fin.sum_univ_four, rT_eq, rT_eq, rT_eq, rT_eq]
  have e0 : (⟨512 * k.val + (128 * (0 : Fin 4).val + l.val), by omega⟩ : Fin 10240) = col (tripOf k) ⟨l.val, by omega⟩ := Fin.ext (by simp [tripOf])
  have e1 : (⟨512 * k.val + (128 * (1 : Fin 4).val + l.val), by omega⟩ : Fin 10240) = col (tripOf k) ⟨128 + l.val, by omega⟩ := Fin.ext (by simp [tripOf])
  have e2 : (⟨512 * k.val + (128 * (2 : Fin 4).val + l.val), by omega⟩ : Fin 10240) = col (tripOf k) ⟨256 + l.val, by omega⟩ := Fin.ext (by simp [tripOf])
  have e3 : (⟨512 * k.val + (128 * (3 : Fin 4).val + l.val), by omega⟩ : Fin 10240) = col (tripOf k) ⟨384 + l.val, by omega⟩ := Fin.ext (by simp [tripOf])
  rw [e0, e1, e2, e3]

/-- The last trip's sum of squares, lane by lane. -/
theorem loss_lanes (t : Fin 256) (l : Fin 128) : vL20 (F := Ideal) c XW XC X0 X1 X4 X5 X6 (ix2 t l)
    = ∑ k : Fin 20, lane c XW XC X0 X1 X4 X5 X6 k t l := by
  have hr : ∀ x, View.read (Elt Ideal) (Memref.whole cc0_scratch12).view x (ix2 t l) = ld12 (F := Ideal) c x (ix2 t l) := by
    intro x
    refine congrArg x ?_
    funext a; apply Fin.ext; fin_cases a <;> simp
  unfold vL20
  rw [hr]
  refine fold_sum (fun K => ld12 (F := Ideal) c (lossBuf c XW XC (b3 c X6) (b4 c X4) (b7 c X0) (b9 c X1) (b10 c X0 X1 X5) (b12 c) K) (ix2 t l)) _ ?_ ?_
  · show ld12 (F := Ideal) c (b12 c) (ix2 t l) = 0
    rw [ld12_b12]
    exact pay73_apply t l
  · intro k
    have hk : k.val < k0_t1_loop.trips := lt_of_lt_of_eq k.isLt trips_eq.symm
    rw [lossBuf, dif_pos hk, ld12_st12]
    exact loss_step c XW XC X0 X1 X4 X5 X6 k _ t l

/-- The gradient's accumulator after the last trip. -/
theorem grad_sum (r : Fin 48) (t : Fin 256) : vG20 (F := Ideal) c XW XC X0 X1 X4 X5 X6 (ix2 r t)
    = ∑ k : Fin 20, ∑ n : Fin 512, mB c X6 r ⟨512 * k.val + n.val, by omega⟩ * mR c XW XC X0 X1 X4 X5 X6 t ⟨512 * k.val + n.val, by omega⟩ := by
  unfold vG20
  refine fold_sum (fun K => ld13 (F := Ideal) c (gtBuf c XW XC (b3 c X6) (b4 c X4) (b7 c X0) (b9 c X1) (b10 c X0 X1 X5) (b13 c) K) (ix2 r t)) _ ?_ ?_
  · show ld13 (F := Ideal) c (b13 c) (ix2 r t) = 0
    rw [ld13_b13]
    exact pay74_apply r t
  · intro k
    have hk : k.val < k0_t1_loop.trips := lt_of_lt_of_eq k.isLt trips_eq.symm
    rw [gtBuf, dif_pos hk, ld13_st13]
    unfold gtVal
    rw [gt_apply _ _ _ _ _ (sK (i1 c X1)) (ld9_apply c X1)]
    simp only [rT_eq, ld3_apply]

/-- A tile of the derivative by `b`. -/
theorem d_tile (b : Fin 20) (r : Fin 48) (n : Fin 512) : outD (F := Ideal) c XW XC X0 X1 X4 X5 X6 b (ix2 r n)
    = dbM (mP c X0 X1 X5) (mR c XW XC X0 X1 X4 X5 X6) r ⟨512 * b.val + n.val, by omega⟩ := by
  unfold outD dOf dbVal dbM negTwo
  rw [db_apply _ _ _ _ _ (sK (i1 c X1)) (ld9_apply c X1)]
  unfold b11
  rw [ld11_rep]
  simp only [rT_eq, vT_apply]
  rfl

end Sums

end Cert.Proof.K
-- ==== Proof.KerRes.lean ====
/-
  The kernel's four results, index by index, as the functions of `Math` of its operands.
-/
module

public import proofs.«01_k».proof.Proof.KerVal

@[expose] public section

noncomputable section

namespace Cert.Proof.K

open Cert.KernelIdeal Cert.KernelIdeal.Gen
open Idealize.ShloMosaic
open Idealize.ShloMosaic.TcCoe

/-- A sum over all columns, tile by tile; -/
theorem sum_tiles (f : Fin 10240 → EReal) : ∑ n : Fin 10240, f n = ∑ k : Fin 20, ∑ n : Fin 512, f ⟨512 * k.val + n.val, by omega⟩ := by
  rw [Fin.sum_univ_tiles 20 512 rfl]
  refine Finset.sum_congr rfl fun k _ => Finset.sum_congr rfl fun n _ => congrArg f (Fin.ext ?_)
  show k.val * 512 + n.val = 512 * k.val + n.val
  omega

/-- and lane by lane. -/
theorem sum_lanes (f : Fin 10240 → EReal) : ∑ n : Fin 10240, f n
    = ∑ l : Fin 128, ∑ k : Fin 20, ∑ q : Fin 4, f ⟨512 * k.val + (128 * q.val + l.val), by omega⟩ := by
  rw [sum_tiles]
  refine Eq.trans (Finset.sum_congr rfl fun k _ => ?_) Finset.sum_comm
  refine Eq.trans ?_ Finset.sum_comm
  rw [Fin.sum_univ_tiles 4 128 rfl]
  refine Finset.sum_congr rfl fun q _ => Finset.sum_congr rfl fun l _ => congrArg f (Fin.ext ?_)
  show 512 * k.val + (q.val * 128 + l.val) = 512 * k.val + (128 * q.val + l.val)
  omega

theorem pay80_apply (v : Vec Ideal S128x128 .f32) (i : Fin 128) : k0_pay80 (F := Ideal) v (ix2 0 i) = ∑ l : Fin 128, v (ix2 i l) := by
  pointwise [k0_pay80]
theorem pay79_apply (v : Vec Ideal S128x128 .f32) (i : Fin 128) : k0_pay79 (F := Ideal) (k0_pay78 v) (ix2 0 i) = ∑ l : Fin 128, v (ix2 i l) := by
  pointwise [k0_pay79, k0_pay78]
theorem pay77_apply (v : Vec Ideal S48x256 .f32) (t : Fin 256) (r : Fin 48) : k0_pay77 (F := Ideal) v (ix2 t r) = v (ix2 r t) := by
  pointwise [k0_pay77]
theorem pay76_apply (v : Vec Ideal S48x256 .f32) (s0 s1 : Vec Ideal S1x128 .f32) (x : Vec Ideal S256x2560 .bf16) (d : Fin 2560) (r : Fin 48) :
    k0_pay76 (F := Ideal) v s0 s1 x (ix2 d r) = negTwo * ∑ t : Fin 256, v (ix2 r t) * (if h : t.val < 128 then s0 (ix2 0 ⟨t.val, h⟩) else s1 (ix2 0 ⟨t.val - 128, by omega⟩)) * x (ix2 t d) := by
  unfold negTwo
  pointwise [k0_pay76]

/-- The sums of squares' lanes summed. -/
theorem vLoss_apply (L : FVec Ideal S256x128 .f32) (a : Fin 2) (b : Fin 128) : vLoss (F := Ideal) L (ix2 a b) = ∑ l : Fin 128, L (ix2 ⟨128 * a.val + b.val, by omega⟩ l) := by
  have hp : View.PiecesOf (Val := Elt Ideal) (e := .f32) (fun j : S2x128.Idx => ∑ l : Fin 128, L (ix2 ⟨128 * (j 0).val + (j 1).val, by
        have h0 : (j 0).val < 2 := (j 0).isLt
        have h1 : (j 1).val < 128 := (j 1).isLt
        omega⟩ l))
      [⟨Rect.unit (s := S2x128) ![1, 0] S1x128.size inb_S2x128_S1x128_1_0,
        k0_pay80 (F := Ideal) (fun j => L ((Rect.unit (s := S256x128) ![128, 0] S128x128.size inb_S256x128_S128x128_128_0).toLoadRect.idx j))⟩,
       ⟨Rect.unit (s := S2x128) ![0, 0] S1x128.size inb_S2x128_S1x128_0_0,
        k0_pay79 (F := Ideal) (k0_pay78 (fun j => L ((Rect.unit (s := S256x128) ![0, 0] S128x128.size inb_S256x128_S128x128_0_0).toLoadRect.idx j)))⟩] := by
    refine ⟨fun x => ?_, fun x => ?_, trivial⟩
    · obtain ⟨i, rfl⟩ : ∃ (i : Fin 128), x = ix2 0 i := ⟨x 1, by
        funext a; fin_cases a
        · exact Fin.ext (by have h : (x 0).val < 1 := (x 0).isLt; simp; omega)
        · rfl⟩
      refine (pay80_apply _ i).trans (Finset.sum_congr rfl fun l _ => congrArg L ?_)
      funext a; apply Fin.ext; fin_cases a <;> simp
    · obtain ⟨i, rfl⟩ : ∃ (i : Fin 128), x = ix2 0 i := ⟨x 1, by
        funext a; fin_cases a
        · exact Fin.ext (by have h : (x 0).val < 1 := (x 0).isLt; simp; omega)
        · rfl⟩
      refine (pay79_apply _ i).trans (Finset.sum_congr rfl fun l _ => congrArg L ?_)
      funext a; apply Fin.ext; fin_cases a <;> simp
  have e := View.canon_append_of_piecesOf _ [] _ hp (ix2 a b) (rows2_cover _ _ (ix2 a b))
  rw [List.append_nil] at e
  exact e

/-- A row's scale, from the half its row lies in. -/
theorem s_apply (I1 : Vec Ideal S2x128 .f32) (t : Fin 256) : (if h : t.val < 128 then vS0 (F := Ideal) I1 (ix2 0 ⟨t.val, h⟩) else vS1 (F := Ideal) I1 (ix2 0 ⟨t.val - 128, by omega⟩)) = sK I1 t := by
  unfold sK
  split
  · rename_i h
    refine (vS0_apply _ _).trans (congrArg I1 ?_)
    funext a; apply Fin.ext; fin_cases a
    · show 0 = t.val / 128
      omega
    · show t.val = t.val % 128
      omega
  · rename_i h
    refine (vS1_apply _ _).trans (congrArg I1 ?_)
    have ht := t.isLt
    funext a; apply Fin.ext; fin_cases a
    · show 1 = t.val / 128
      omega
    · show t.val - 128 = t.val % 128
      omega

/-- A tile of the derivative by `b`, read at an index. -/
theorem dT_read (c : Dev nD) (b : Fin 20) (f : Buf (Elt Ideal) (dHbm.view.loc (c : Thread nD τ))) (r : Fin 48) (q : Fin 512) :
    (dT b).view.read (Elt Ideal) f (ix2 r q) = f (ix2 r ⟨512 * b.val + q.val, by omega⟩) := by
  unfold dT
  refine congrArg f ?_
  funext a; apply Fin.ext; fin_cases a
  · show ((Rect.unit (s := S48x10240) (tileOff b) S48x512.size (dTile_inb b)).emb (ix2 r q) 0).val = r.val
    simp
  · show ((Rect.unit (s := S48x10240) (tileOff b) S48x512.size (dTile_inb b)).emb (ix2 r q) 1).val = 512 * b.val + q.val
    simp

/-- The tiles laid out over the whole derivative by `b`. -/
theorem dFull_at (c : Dev nD) (gD : Buf (Elt Ideal) (dHbm.view.loc (c : Thread nD τ))) (W : (b : Fin 20) → Vec Ideal S48x512 .f32) (b : Fin 20) (r : Fin 48) (q : Fin 512) :
    dFull (F := Ideal) c gD W (ix2 r ⟨512 * b.val + q.val, by omega⟩) = W b (ix2 r q) := by
  have h := congrFun (View.read_writes_whole (dT b).view gD (W b)) (ix2 r q)
  have hr := dT_read c b (dOut c gD W b) r q
  have et : tileAt (ix2 r ⟨512 * b.val + q.val, by omega⟩) = b := Fin.ext (by
    show (512 * b.val + q.val) / 512 = b.val
    omega)
  unfold dFull
  rw [et]
  exact hr.symm.trans h

section Results
variable (c : Dev nD) (XW : Buf (Elt Ideal) (wHbm.view.loc (c : Thread nD τ))) (XC : Buf (Elt Ideal) (cHbm.view.loc (c : Thread nD τ)))
  (gD : Buf (Elt Ideal) (dHbm.view.loc (c : Thread nD τ)))
  (X0 : Buf (Elt Ideal) ((Memref.whole main_v0).view.loc (c : Thread nD τ)))
  (X1 : Buf (Elt Ideal) ((Memref.whole main_arg1).view.loc (c : Thread nD τ)))
  (X4 : Buf (Elt Ideal) ((Memref.whole main_arg4).view.loc (c : Thread nD τ)))
  (X5 : Buf (Elt Ideal) ((Memref.whole main_arg5).view.loc (c : Thread nD τ)))
  (X6 : Buf (Elt Ideal) ((Memref.whole main_arg6).view.loc (c : Thread nD τ)))

/-- The loss of row `128 a + b`. -/
theorem outL_apply (a : Fin 2) (b : Fin 128) : outL (F := Ideal) c XW XC X0 X1 X4 X5 X6 (ix2 a b)
    = ∑ n : Fin 10240, mR c XW XC X0 X1 X4 X5 X6 ⟨128 * a.val + b.val, by omega⟩ n * mR c XW XC X0 X1 X4 X5 X6 ⟨128 * a.val + b.val, by omega⟩ n := by
  unfold outL
  rw [vLoss_apply, sum_lanes]
  exact Finset.sum_congr rfl fun l _ => loss_lanes c XW XC X0 X1 X4 X5 X6 _ l

theorem vG_apply (t : Fin 256) (r : Fin 48) : vG20 (F := Ideal) c XW XC X0 X1 X4 X5 X6 (ix2 r t) = gM (mR c XW XC X0 X1 X4 X5 X6) (mB c X6) t r := by
  rw [grad_sum]
  unfold gM
  rw [sum_tiles]
  exact Finset.sum_congr rfl fun k _ => Finset.sum_congr rfl fun n _ => mul_comm _ _

/-- The gradient's rows. -/
theorem outG_apply (t : Fin 256) (r : Fin 48) : outG (F := Ideal) c XW XC X0 X1 X4 X5 X6 (ix2 t r) = gM (mR c XW XC X0 X1 X4 X5 X6) (mB c X6) t r := by
  unfold outG
  rw [pay77_apply]
  exact vG_apply c XW XC X0 X1 X4 X5 X6 t r

/-- The derivative by `a`. -/
theorem outA_apply (d : Fin 2560) (r : Fin 48) : outA (F := Ideal) c XW XC X0 X1 X4 X5 X6 (ix2 d r)
    = daM (kX (i0 c X0)) (sK (i1 c X1)) (gM (mR c XW XC X0 X1 X4 X5 X6) (mB c X6)) d r := by
  unfold outA
  rw [pay76_apply]
  unfold daM
  refine congrArg _ (Finset.sum_congr rfl fun t _ => ?_)
  rw [vG_apply, vX_apply, s_apply]
  exact mul_comm _ _

/-- The derivative by `b`. -/
theorem dFull_apply (r : Fin 48) (n : Fin 10240) : dFull (F := Ideal) c gD (outD c XW XC X0 X1 X4 X5 X6) (ix2 r n)
    = dbM (mP c X0 X1 X5) (mR c XW XC X0 X1 X4 X5 X6) r n := by
  obtain ⟨b, q, rfl⟩ : ∃ (b : Fin 20) (q : Fin 512), n = ⟨512 * b.val + q.val, by omega⟩ :=
    ⟨⟨n.val / 512, by omega⟩, ⟨n.val % 512, by omega⟩, Fin.ext (Nat.div_add_mod n.val 512).symm⟩
  rw [dFull_at, d_tile]

end Results

end Cert.Proof.K
-- ==== Proof.RefVal.lean ====
/-
  The reference's payloads read at an index: each is the function of `Math` named on its right side.
-/
module

public import proofs.«01_k».proof.Proof.Gen.ReferenceIdeal.Skeleton
public import proofs.«01_k».proof.Proof.Math
public import Idealize.ShloMosaic.Lib.Pointwise

@[expose] public section

noncomputable section

namespace Cert.Proof.R

open Cert.ReferenceIdeal Cert.ReferenceIdeal.Gen
open Idealize.ShloMosaic

section
variable (x : FVec Ideal S256x2560 .fp8e4m3) (s : FVec Ideal S256x1 .f32) (w : Vec Ideal S2560x10240 .bf16) (q : Vec Ideal S1280x10240 .i8)
  (z : Vec Ideal S20x10240 .bf16) (a : Vec Ideal S2560x48 .bf16) (b : Vec Ideal S48x10240 .bf16)

/-- The lower rows of the error. -/
theorem elo (k : Fin 1280) (n : Fin 10240) : k0_pay12 (F := Ideal) w q z (ix2 k n)
    = w (ix2 ⟨k.val, by omega⟩ n) - K.loC (q (ix2 k n)) * z (ix2 ⟨k.val / 128, by omega⟩ n) := by
  unfold K.loC
  pointwise [k0_pay12, k0_pay11]

/-- The upper rows of the error. -/
theorem ehi (k : Fin 1280) (n : Fin 10240) : k0_pay13 (F := Ideal) w (ix2 k n) - k0_pay14 (F := Ideal) q z (ix2 k n)
    = w (ix2 ⟨1280 + k.val, by omega⟩ n) - K.hiC (q (ix2 k n)) * z (ix2 ⟨10 + k.val / 128, by omega⟩ n) := by
  unfold K.hiC
  pointwise [k0_pay13, k0_pay14, k0_pay11]

/-- The rows of `x`. -/
abbrev fX := fun (t : Fin 256) (k : Fin 2560) => (x (ix2 t k) : EReal)
/-- The row scales. -/
abbrev fs := fun (t : Fin 256) => (s (ix2 t 0) : EReal)
/-- The error of the reference's weights, codes and scales. -/
abbrev fE := errM (fun k n => w (ix2 k n)) (fun k n => q (ix2 k n)) (fun g n => z (ix2 g n))
/-- The projection. -/
abbrev fP := pM (fX x) (fs s) (fun d r => a (ix2 d r))
/-- The tile `b`. -/
abbrev fB := fun (r : Fin 48) (n : Fin 10240) => (b (ix2 r n) : EReal)
/-- The residual. -/
abbrev fR := rM (fX x) (fs s) (fE w q z) (fP x s a) (fB b)

theorem p_apply (t : Fin 256) (r : Fin 48) : k0_pay2 (F := Ideal) (k0_pay9 x) (k0_pay10 s) a (ix2 t r) = fP x s a t r := by
  unfold fP pM
  pointwise [k0_pay2, k0_pay1, k0_pay9, k0_pay10]

theorem r_split (t : Fin 256) (n : Fin 10240) (eL eW eD : FVec Ideal S1280x10240 .bf16) :
    k0_pay3 (F := Ideal) (k0_pay9 x) (k0_pay10 s) a b eL eW eD (ix2 t n)
    = (∑ k : Fin 1280, x (ix2 t ⟨k.val, by omega⟩) * eL (ix2 k n) + ∑ k : Fin 1280, x (ix2 t ⟨1280 + k.val, by omega⟩) * (eW (ix2 k n) - eD (ix2 k n))) * s (ix2 t 0)
      - ∑ r : Fin 48, k0_pay2 (F := Ideal) (k0_pay9 x) (k0_pay10 s) a (ix2 t r) * b (ix2 r n) := by
  pointwise [k0_pay3, k0_pay1, k0_pay9, k0_pay10]

theorem r_apply (t : Fin 256) (n : Fin 10240) :
    k0_pay3 (F := Ideal) (k0_pay9 x) (k0_pay10 s) a b (k0_pay12 w q z) (k0_pay13 w) (k0_pay14 q z) (ix2 t n) = fR x s w q z a b t n := by
  rw [r_split]
  unfold fR rM
  rw [Fin.sum_univ_two_halves 1280 1280 rfl]
  congr 1
  · congr 2
    · refine Finset.sum_congr rfl fun k _ => ?_
      rw [elo]
      unfold fE errM
      rw [dif_pos k.isLt]
    · refine Finset.sum_congr rfl fun k _ => ?_
      rw [ehi]
      unfold fE errM
      have h1 : (⟨1280 + k.val - 1280, by omega⟩ : Fin 1280) = k := Fin.ext (Nat.add_sub_cancel_left _ _)
      have h2 : (⟨(1280 + k.val) / 128, by omega⟩ : Fin 20) = ⟨10 + k.val / 128, by omega⟩ := Fin.ext (show (1280 + k.val) / 128 = 10 + k.val / 128 by omega)
      rw [dif_neg (show ¬ (1280 + k.val < 1280) by omega)]
      simp only [h1, h2]
  · exact Finset.sum_congr rfl fun r _ => by rw [p_apply]

/-- The reference's loss. -/
theorem l_apply (t : Fin 256) : k0_pay4 (F := Ideal) (k0_pay9 x) (k0_pay10 s) a b (k0_pay12 w q z) (k0_pay13 w) (k0_pay14 q z) (ix2 t 0)
    = ∑ n : Fin 10240, fR x s w q z a b t n * fR x s w q z a b t n := by
  simp only [← r_apply]
  pointwise [k0_pay4]

/-- The reference's gradient. -/
theorem g_apply (t : Fin 256) (r : Fin 48) : k0_pay6 (F := Ideal) (k0_pay9 x) (k0_pay10 s) a b (k0_pay12 w q z) (k0_pay13 w) (k0_pay14 q z) (ix2 t r)
    = gM (fR x s w q z a b) (fB b) t r := by
  unfold gM
  simp only [← r_apply]
  pointwise [k0_pay6, k0_pay5]

/-- The reference's derivative by `a`. -/
theorem da_apply (d : Fin 2560) (r : Fin 48) : k0_pay7 (F := Ideal) (k0_pay9 x) (k0_pay10 s) a b (k0_pay12 w q z) (k0_pay13 w) (k0_pay14 q z) (ix2 d r)
    = daM (fX x) (fs s) (gM (fR x s w q z a b) (fB b)) d r := by
  unfold daM negTwo
  simp only [← g_apply]
  pointwise [k0_pay7, k0_pay1, k0_pay9, k0_pay10]

/-- The reference's derivative by `b`. -/
theorem db_apply (r : Fin 48) (n : Fin 10240) : k0_pay8 (F := Ideal) (k0_pay9 x) (k0_pay10 s) a b (k0_pay12 w q z) (k0_pay13 w) (k0_pay14 q z) (ix2 r n)
    = dbM (fP x s a) (fR x s w q z a b) r n := by
  unfold dbM negTwo
  simp only [← r_apply, ← p_apply]
  pointwise [k0_pay8, k0_pay5]
end
end Cert.Proof.R
-- ==== Proof.Ref.lean ====
/-
  The reference's run: its result arrays as the body's values at its arguments.
-/
module

public import proofs.«01_k».proof.Proof.RefVal
public import proofs.«01_k».proof.Proof.Gen.ReferenceIdeal.Frame
public import Idealize.ShloMosaic.Lib.StableHlo.Run
public import Idealize.ShloMosaic.Lib.Pipeline.ValueKit.Geometry

@[expose] public section

noncomputable section

namespace Cert.Proof.R

open Cert.ReferenceIdeal Cert.ReferenceIdeal.Gen
open Idealize.ShloMosaic
open Idealize.ShloMosaic.TcCoe
open Idealize.SL Idealize.SL.Sem

/-- The offsets of an access of a whole buffer. -/
theorem off2_zero : (![0, 0] : Fin 2 → ℕ) = fun _ => 0 := by funext a; fin_cases a <;> rfl

section Values
variable (x : Vec Ideal S256x2560 .fp8e4m3) (s : Vec Ideal S256x1 .f32) (w : Vec Ideal S2560x10240 .bf16) (q : Vec Ideal S1280x10240 .i8) (z : Vec Ideal S20x10240 .bf16) (a : Vec Ideal S2560x48 .bf16) (b : Vec Ideal S48x10240 .bf16)

/-- What the body stores to result window 7, index by index. -/
theorem out_7 (t : Fin 256) : out0_7 (F := Ideal) x s w q z a b (ix2 t 0) = ∑ n : Fin 10240, fR x s w q z a b t n * fR x s w q z a b t n := by
  unfold out0_7 k0_pay19 k0_pay18 k0_pay17 k0_pay16 k0_pay15
  simp only [r0_0, r0_1, r0_2, r0_3, r0_4, r0_5, r0_6, View.ld_unit_zero (S := S256x2560) off2_zero, View.ld_unit_zero (S := S256x1) off2_zero, View.ld_unit_zero (S := S2560x10240) off2_zero, View.ld_unit_zero (S := S1280x10240) off2_zero, View.ld_unit_zero (S := S20x10240) off2_zero, View.ld_unit_zero (S := S2560x48) off2_zero, View.ld_unit_zero (S := S48x10240) off2_zero]
  rw [View.canon_unit_zero (S := S256x1) off2_zero]
  exact R.l_apply x s w q z a b t
/-- What the body stores to result window 8, index by index. -/
theorem out_8 (t : Fin 256) (r : Fin 48) : out0_8 (F := Ideal) x s w q z a b (ix2 t r) = gM (fR x s w q z a b) (fB b) t r := by
  unfold out0_8 k0_pay19 k0_pay18 k0_pay17 k0_pay16 k0_pay15
  simp only [r0_0, r0_1, r0_2, r0_3, r0_4, r0_5, r0_6, View.ld_unit_zero (S := S256x2560) off2_zero, View.ld_unit_zero (S := S256x1) off2_zero, View.ld_unit_zero (S := S2560x10240) off2_zero, View.ld_unit_zero (S := S1280x10240) off2_zero, View.ld_unit_zero (S := S20x10240) off2_zero, View.ld_unit_zero (S := S2560x48) off2_zero, View.ld_unit_zero (S := S48x10240) off2_zero]
  rw [View.canon_unit_zero (S := S256x48) off2_zero]
  exact R.g_apply x s w q z a b t r
/-- What the body stores to result window 9, index by index. -/
theorem out_9 (d : Fin 2560) (r : Fin 48) : out0_9 (F := Ideal) x s w q z a b (ix2 d r) = daM (fX x) (fs s) (gM (fR x s w q z a b) (fB b)) d r := by
  unfold out0_9 k0_pay19 k0_pay18 k0_pay17 k0_pay16 k0_pay15
  simp only [r0_0, r0_1, r0_2, r0_3, r0_4, r0_5, r0_6, View.ld_unit_zero (S := S256x2560) off2_zero, View.ld_unit_zero (S := S256x1) off2_zero, View.ld_unit_zero (S := S2560x10240) off2_zero, View.ld_unit_zero (S := S1280x10240) off2_zero, View.ld_unit_zero (S := S20x10240) off2_zero, View.ld_unit_zero (S := S2560x48) off2_zero, View.ld_unit_zero (S := S48x10240) off2_zero]
  rw [View.canon_unit_zero (S := S2560x48) off2_zero]
  exact R.da_apply x s w q z a b d r
/-- What the body stores to result window 10, index by index. -/
theorem out_10 (r : Fin 48) (n : Fin 10240) : out0_10 (F := Ideal) x s w q z a b (ix2 r n) = dbM (fP x s a) (fR x s w q z a b) r n := by
  unfold out0_10 k0_pay19 k0_pay18 k0_pay17 k0_pay16 k0_pay15
  simp only [r0_0, r0_1, r0_2, r0_3, r0_4, r0_5, r0_6, View.ld_unit_zero (S := S256x2560) off2_zero, View.ld_unit_zero (S := S256x1) off2_zero, View.ld_unit_zero (S := S2560x10240) off2_zero, View.ld_unit_zero (S := S1280x10240) off2_zero, View.ld_unit_zero (S := S20x10240) off2_zero, View.ld_unit_zero (S := S2560x48) off2_zero, View.ld_unit_zero (S := S48x10240) off2_zero]
  rw [View.canon_unit_zero (S := S48x10240) off2_zero]
  exact R.db_apply x s w q z a b r n
end Values

section Run
variable (m : (ℓ : Loc nD τ sig) → Buf (Elt Ideal) ℓ) (c : Dev nD)

/-- Each input window's block is its whole array. -/
theorem iblk_0 : iblk (F := Ideal) m c 0 t0_0 = V (F := Ideal) m c main_v0 := by
  show (win0_0.blk t0_0).view.read (Elt Ideal) (V (F := Ideal) m c main_v0) = _
  exact Memref.read_access_unit_zero (Elt Ideal) main_v0
    (show (fun a => (win0_0.index t0_0) a * main_v0.ty.shape.size a) = fun _ => 0 from
      funext fun a => by fin_cases a <;> decide) (fun a => by fin_cases a <;> decide) _
theorem iblk_1 : iblk (F := Ideal) m c 1 t0_0 = V (F := Ideal) m c main_v1 := by
  show (win0_1.blk t0_0).view.read (Elt Ideal) (V (F := Ideal) m c main_v1) = _
  exact Memref.read_access_unit_zero (Elt Ideal) main_v1
    (show (fun a => (win0_1.index t0_0) a * main_v1.ty.shape.size a) = fun _ => 0 from
      funext fun a => by fin_cases a <;> decide) (fun a => by fin_cases a <;> decide) _
theorem iblk_2 : iblk (F := Ideal) m c 2 t0_0 = V (F := Ideal) m c main_arg2 := by
  show (win0_2.blk t0_0).view.read (Elt Ideal) (V (F := Ideal) m c main_arg2) = _
  exact Memref.read_access_unit_zero (Elt Ideal) main_arg2
    (show (fun a => (win0_2.index t0_0) a * main_arg2.ty.shape.size a) = fun _ => 0 from
      funext fun a => by fin_cases a <;> decide) (fun a => by fin_cases a <;> decide) _
theorem iblk_3 : iblk (F := Ideal) m c 3 t0_0 = V (F := Ideal) m c main_arg3 := by
  show (win0_3.blk t0_0).view.read (Elt Ideal) (V (F := Ideal) m c main_arg3) = _
  exact Memref.read_access_unit_zero (Elt Ideal) main_arg3
    (show (fun a => (win0_3.index t0_0) a * main_arg3.ty.shape.size a) = fun _ => 0 from
      funext fun a => by fin_cases a <;> decide) (fun a => by fin_cases a <;> decide) _
theorem iblk_4 : iblk (F := Ideal) m c 4 t0_0 = V (F := Ideal) m c main_arg4 := by
  show (win0_4.blk t0_0).view.read (Elt Ideal) (V (F := Ideal) m c main_arg4) = _
  exact Memref.read_access_unit_zero (Elt Ideal) main_arg4
    (show (fun a => (win0_4.index t0_0) a * main_arg4.ty.shape.size a) = fun _ => 0 from
      funext fun a => by fin_cases a <;> decide) (fun a => by fin_cases a <;> decide) _
theorem iblk_5 : iblk (F := Ideal) m c 5 t0_0 = V (F := Ideal) m c main_arg5 := by
  show (win0_5.blk t0_0).view.read (Elt Ideal) (V (F := Ideal) m c main_arg5) = _
  exact Memref.read_access_unit_zero (Elt Ideal) main_arg5
    (show (fun a => (win0_5.index t0_0) a * main_arg5.ty.shape.size a) = fun _ => 0 from
      funext fun a => by fin_cases a <;> decide) (fun a => by fin_cases a <;> decide) _
theorem iblk_6 : iblk (F := Ideal) m c 6 t0_0 = V (F := Ideal) m c main_arg6 := by
  show (win0_6.blk t0_0).view.read (Elt Ideal) (V (F := Ideal) m c main_arg6) = _
  exact Memref.read_access_unit_zero (Elt Ideal) main_arg6
    (show (fun a => (win0_6.index t0_0) a * main_arg6.ty.shape.size a) = fun _ => 0 from
      funext fun a => by fin_cases a <;> decide) (fun a => by fin_cases a <;> decide) _

/-- Result window 7's array after the run. -/
theorem arr_7 : (dats (F := Ideal) m 0 c).arrAt 7 cfg0.N = out0_7 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) := by
  have hw : ((cfg0.win 7).blk t0_0).view.read (Elt Ideal) ((dats (F := Ideal) m 0 c).arrAt 7 cfg0.N)
      = (dats (F := Ideal) m 0 c).flushed 7 t0_0 := by
    rw [show cfg0.N = t0_0.val + 1 from rfl, (dats m 0 c).arrAt_succ (7 : Fin 11) t0_0, flush0_7, if_pos rfl]
    exact View.read_write_univ _ _
  have hf : (dats (F := Ideal) m 0 c).flushed 7 t0_0 = (cfg0.win 7).cut _ (out0_7 (V (F := Ideal) m c main_v0) (V (F := Ideal) m c main_v1) (V (F := Ideal) m c main_arg2) (V (F := Ideal) m c main_arg3) (V (F := Ideal) m c main_arg4) (V (F := Ideal) m c main_arg5) (V (F := Ideal) m c main_arg6)) := by
    show (cfg0.win 7).cut _ ((dats (F := Ideal) m 0 c).after 7 t0_0) = _
    rw [after0_7, iblk_0, iblk_1, iblk_2, iblk_3, iblk_4, iblk_5, iblk_6]
  rw [hf] at hw
  refine Eq.trans (Eq.symm ?_) (hw.trans (funext fun _ => rfl))
  exact Memref.read_access_unit_zero (Elt Ideal) main_v2_0
    (show (fun a => (win0_7.index t0_0) a * main_v2_0.ty.shape.size a) = fun _ => 0 from
      funext fun a => by fin_cases a <;> decide) (fun a => by fin_cases a <;> decide) _
/-- Result window 8's array after the run. -/
theorem arr_8 : (dats (F := Ideal) m 0 c).arrAt 8 cfg0.N = out0_8 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) := by
  have hw : ((cfg0.win 8).blk t0_0).view.read (Elt Ideal) ((dats (F := Ideal) m 0 c).arrAt 8 cfg0.N)
      = (dats (F := Ideal) m 0 c).flushed 8 t0_0 := by
    rw [show cfg0.N = t0_0.val + 1 from rfl, (dats m 0 c).arrAt_succ (8 : Fin 11) t0_0, flush0_8, if_pos rfl]
    exact View.read_write_univ _ _
  have hf : (dats (F := Ideal) m 0 c).flushed 8 t0_0 = (cfg0.win 8).cut _ (out0_8 (V (F := Ideal) m c main_v0) (V (F := Ideal) m c main_v1) (V (F := Ideal) m c main_arg2) (V (F := Ideal) m c main_arg3) (V (F := Ideal) m c main_arg4) (V (F := Ideal) m c main_arg5) (V (F := Ideal) m c main_arg6)) := by
    show (cfg0.win 8).cut _ ((dats (F := Ideal) m 0 c).after 8 t0_0) = _
    rw [after0_8, iblk_0, iblk_1, iblk_2, iblk_3, iblk_4, iblk_5, iblk_6]
  rw [hf] at hw
  refine Eq.trans (Eq.symm ?_) (hw.trans (funext fun _ => rfl))
  exact Memref.read_access_unit_zero (Elt Ideal) main_v2_1
    (show (fun a => (win0_8.index t0_0) a * main_v2_1.ty.shape.size a) = fun _ => 0 from
      funext fun a => by fin_cases a <;> decide) (fun a => by fin_cases a <;> decide) _
/-- Result window 9's array after the run. -/
theorem arr_9 : (dats (F := Ideal) m 0 c).arrAt 9 cfg0.N = out0_9 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) := by
  have hw : ((cfg0.win 9).blk t0_0).view.read (Elt Ideal) ((dats (F := Ideal) m 0 c).arrAt 9 cfg0.N)
      = (dats (F := Ideal) m 0 c).flushed 9 t0_0 := by
    rw [show cfg0.N = t0_0.val + 1 from rfl, (dats m 0 c).arrAt_succ (9 : Fin 11) t0_0, flush0_9, if_pos rfl]
    exact View.read_write_univ _ _
  have hf : (dats (F := Ideal) m 0 c).flushed 9 t0_0 = (cfg0.win 9).cut _ (out0_9 (V (F := Ideal) m c main_v0) (V (F := Ideal) m c main_v1) (V (F := Ideal) m c main_arg2) (V (F := Ideal) m c main_arg3) (V (F := Ideal) m c main_arg4) (V (F := Ideal) m c main_arg5) (V (F := Ideal) m c main_arg6)) := by
    show (cfg0.win 9).cut _ ((dats (F := Ideal) m 0 c).after 9 t0_0) = _
    rw [after0_9, iblk_0, iblk_1, iblk_2, iblk_3, iblk_4, iblk_5, iblk_6]
  rw [hf] at hw
  refine Eq.trans (Eq.symm ?_) (hw.trans (funext fun _ => rfl))
  exact Memref.read_access_unit_zero (Elt Ideal) main_v2_2
    (show (fun a => (win0_9.index t0_0) a * main_v2_2.ty.shape.size a) = fun _ => 0 from
      funext fun a => by fin_cases a <;> decide) (fun a => by fin_cases a <;> decide) _
/-- Result window 10's array after the run. -/
theorem arr_10 : (dats (F := Ideal) m 0 c).arrAt 10 cfg0.N = out0_10 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) := by
  have hw : ((cfg0.win 10).blk t0_0).view.read (Elt Ideal) ((dats (F := Ideal) m 0 c).arrAt 10 cfg0.N)
      = (dats (F := Ideal) m 0 c).flushed 10 t0_0 := by
    rw [show cfg0.N = t0_0.val + 1 from rfl, (dats m 0 c).arrAt_succ (10 : Fin 11) t0_0, flush0_10, if_pos rfl]
    exact View.read_write_univ _ _
  have hf : (dats (F := Ideal) m 0 c).flushed 10 t0_0 = (cfg0.win 10).cut _ (out0_10 (V (F := Ideal) m c main_v0) (V (F := Ideal) m c main_v1) (V (F := Ideal) m c main_arg2) (V (F := Ideal) m c main_arg3) (V (F := Ideal) m c main_arg4) (V (F := Ideal) m c main_arg5) (V (F := Ideal) m c main_arg6)) := by
    show (cfg0.win 10).cut _ ((dats (F := Ideal) m 0 c).after 10 t0_0) = _
    rw [after0_10, iblk_0, iblk_1, iblk_2, iblk_3, iblk_4, iblk_5, iblk_6]
  rw [hf] at hw
  refine Eq.trans (Eq.symm ?_) (hw.trans (funext fun _ => rfl))
  exact Memref.read_access_unit_zero (Elt Ideal) main_v2_3
    (show (fun a => (win0_10.index t0_0) a * main_v2_3.ty.shape.size a) = fun _ => 0 from
      funext fun a => by fin_cases a <;> decide) (fun a => by fin_cases a <;> decide) _

/-- The reference's residual at its arguments. -/
abbrev rR : Fin 256 → Fin 10240 → EReal := fR (V (F := Ideal) m c main_v0) (V (F := Ideal) m c main_v1) (V (F := Ideal) m c main_arg2) (V (F := Ideal) m c main_arg3) (V (F := Ideal) m c main_arg4) (V (F := Ideal) m c main_arg5) (V (F := Ideal) m c main_arg6)
/-- The reference's first product at its arguments. -/
abbrev rP : Fin 256 → Fin 48 → EReal := fP (V (F := Ideal) m c main_v0) (V (F := Ideal) m c main_v1) (V (F := Ideal) m c main_arg5)

/-- The loss, -/
theorem loss_at (t : Fin 256) : (dats (F := Ideal) m 0 c).arrAt 7 cfg0.N (ix2 t 0) = ∑ n : Fin 10240, rR m c t n * rR m c t n := by
  rw [arr_7]
  exact out_7 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) t
/-- the gradient, -/
theorem g_at (t : Fin 256) (r : Fin 48) : (dats (F := Ideal) m 0 c).arrAt 8 cfg0.N (ix2 t r) = gM (rR m c) (fB (V (F := Ideal) m c main_arg6)) t r := by
  rw [arr_8]
  exact out_8 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) t r
/-- the derivative by `a`, -/
theorem da_at (d : Fin 2560) (r : Fin 48) : (dats (F := Ideal) m 0 c).arrAt 9 cfg0.N (ix2 d r) = daM (fX (V (F := Ideal) m c main_v0)) (fs (V (F := Ideal) m c main_v1)) (gM (rR m c) (fB (V (F := Ideal) m c main_arg6))) d r := by
  rw [arr_9]
  exact out_9 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) d r
/-- and the derivative by `b`. -/
theorem db_at (r : Fin 48) (n : Fin 10240) : (dats (F := Ideal) m 0 c).arrAt 10 cfg0.N (ix2 r n) = dbM (rP m c) (rR m c) r n := by
  rw [arr_10]
  exact out_10 (V (F := Ideal) m c main_v0) (V (F := Ideal) m c main_v1) (V (F := Ideal) m c main_arg2) (V (F := Ideal) m c main_arg3) (V (F := Ideal) m c main_arg4) (V (F := Ideal) m c main_arg5) (V (F := Ideal) m c main_arg6) r n

/-- The activations as one matrix. -/
theorem V_v0 : V (F := Ideal) m c main_v0 = shapeCast S256x2560 (m ((c : Thread nD τ).loc main_arg0)) shapeCasts_S2x128x2560_S256x2560 := by
  show StableHlo.after hostOps0 _ (Proc.devRef .tc main_v0) = _
  after_results
  rfl

/-- The scales as one column. -/
theorem V_v1 (t : Fin 256) : V (F := Ideal) m c main_v1 (ix2 t 0) = m ((c : Thread nD τ).loc main_arg1) (ix2 ⟨t.val / 128, by omega⟩ ⟨t.val % 128, by omega⟩) := by
  have e : V (F := Ideal) m c main_v1 = shapeCast S256x1 (m ((c : Thread nD τ).loc main_arg1)) shapeCasts_S2x128_S256x1 := by
    show StableHlo.after hostOps0 _ (Proc.devRef .tc main_v1) = _
    after_results
    rfl
  rw [e]
  pointwise

/-- The loss as the reference returns it. -/
theorem v3_at (a : Fin 2) (b : Fin 128) : Pipeline.afterTail₀ cfgs (dats (F := Ideal) m) 0 (V0 m) [hostOps1] c main_v3 (ix2 a b)
    = (dats (F := Ideal) m 0 c).arrAt 7 cfg0.N (ix2 ⟨128 * a.val + b.val, by omega⟩ 0) := by
  have e : Pipeline.afterTail₀ cfgs (dats (F := Ideal) m) 0 (V0 m) [hostOps1] c main_v3 = shapeCast S2x128 ((dats (F := Ideal) m 0 c).arrAt 7 cfg0.N) shapeCasts_S256x1_S2x128 := by
    rw [← Pipeline.withArrays_arr spec0 (by decide) c (V0 m c) (fun w => (dats (F := Ideal) m 0 c).arrAt w cfg0.N) 7]
    unfold Pipeline.afterTail₀
    show StableHlo.after hostOps1 _ (Proc.devRef .tc main_v3) = _
    after_results
    rfl
  rw [e]
  pointwise
  refine congrArg (fun t : Fin 256 => (dats (F := Ideal) m 0 c).arrAt 7 cfg0.N (ix2 t 0)) (Fin.ext ?_)
  show a.val * 128 + b.val = 128 * a.val + b.val
  omega

end Run

end Cert.Proof.R
-- ==== Proof.Algebraic.lean ====
/-
  The kernel's four results are the reference's: both are the functions of `Math` at the arguments the two runs share.
-/
module

public import proofs.«01_k».proof.Defs
public import proofs.«01_k».proof.Proof.KerRes
public import proofs.«01_k».proof.Proof.Launch
public import proofs.«01_k».proof.Proof.Ref

@[expose] public section

noncomputable section

namespace Cert.Proof

open Idealize.ShloMosaic
open Idealize.ShloMosaic.TcCoe
open Idealize.SL Idealize.SL.Sem

/-- An array of rank two is its elements. -/
theorem ext2 {A B : ℕ} {α : Type} (f g : (⟨2, ![A, B]⟩ : Shape).Idx → α) (e : ∀ (i : Fin A) (j : Fin B), f (ix2 i j) = g (ix2 i j)) : f = g := by
  funext x
  obtain ⟨i, j, rfl⟩ : ∃ (i : Fin A) (j : Fin B), x = ix2 i j := ⟨x 0, x 1, by funext a; fin_cases a <;> rfl⟩
  exact e i j

/-- Result 0's buffer read whole. -/
theorem whole0 (c : Dev KernelIdeal.nD) (f : Buf (Elt Ideal) ((c : Thread KernelIdeal.nD KernelIdeal.τ).loc KernelIdeal.main_v1_0)) (i : KernelIdeal.S2x128.Idx) :
    (Memref.whole KernelIdeal.main_v1_0).view.read (Elt Ideal) f i = f i := rfl
/-- Result 0's buffer holding a vector, at an index. -/
theorem rep0 (c : Dev KernelIdeal.nD) (v : Vec Ideal KernelIdeal.S2x128 .f32) (i : KernelIdeal.S2x128.Idx) :
    ((Memref.whole KernelIdeal.main_v1_0).view.rep v : Buf (Elt Ideal) ((c : Thread KernelIdeal.nD KernelIdeal.τ).loc KernelIdeal.main_v1_0)) i = v i :=
  (whole0 c _ i).symm.trans (congrFun (View.read_rep (Val := Elt Ideal) (Memref.whole KernelIdeal.main_v1_0).view v) i)
/-- Result 1's buffer read whole. -/
theorem whole1 (c : Dev KernelIdeal.nD) (f : Buf (Elt Ideal) ((c : Thread KernelIdeal.nD KernelIdeal.τ).loc KernelIdeal.main_v1_1)) (i : KernelIdeal.S256x48.Idx) :
    (Memref.whole KernelIdeal.main_v1_1).view.read (Elt Ideal) f i = f i := rfl
/-- Result 1's buffer holding a vector, at an index. -/
theorem rep1 (c : Dev KernelIdeal.nD) (v : Vec Ideal KernelIdeal.S256x48 .f32) (i : KernelIdeal.S256x48.Idx) :
    ((Memref.whole KernelIdeal.main_v1_1).view.rep v : Buf (Elt Ideal) ((c : Thread KernelIdeal.nD KernelIdeal.τ).loc KernelIdeal.main_v1_1)) i = v i :=
  (whole1 c _ i).symm.trans (congrFun (View.read_rep (Val := Elt Ideal) (Memref.whole KernelIdeal.main_v1_1).view v) i)
/-- Result 2's buffer read whole. -/
theorem whole2 (c : Dev KernelIdeal.nD) (f : Buf (Elt Ideal) ((c : Thread KernelIdeal.nD KernelIdeal.τ).loc KernelIdeal.main_v1_2)) (i : KernelIdeal.S2560x48.Idx) :
    (Memref.whole KernelIdeal.main_v1_2).view.read (Elt Ideal) f i = f i := rfl
/-- Result 2's buffer holding a vector, at an index. -/
theorem rep2 (c : Dev KernelIdeal.nD) (v : Vec Ideal KernelIdeal.S2560x48 .f32) (i : KernelIdeal.S2560x48.Idx) :
    ((Memref.whole KernelIdeal.main_v1_2).view.rep v : Buf (Elt Ideal) ((c : Thread KernelIdeal.nD KernelIdeal.τ).loc KernelIdeal.main_v1_2)) i = v i :=
  (whole2 c _ i).symm.trans (congrFun (View.read_rep (Val := Elt Ideal) (Memref.whole KernelIdeal.main_v1_2).view v) i)

section Match
variable (c : Dev KernelIdeal.nD) (XW : Buf (Elt Ideal) (K.wHbm.view.loc (c : Thread KernelIdeal.nD KernelIdeal.τ))) (XC : Buf (Elt Ideal) (K.cHbm.view.loc (c : Thread KernelIdeal.nD KernelIdeal.τ)))
  (X0 : Buf (Elt Ideal) ((Memref.whole KernelIdeal.main_v0).view.loc (c : Thread KernelIdeal.nD KernelIdeal.τ)))
  (X1 : Buf (Elt Ideal) ((Memref.whole KernelIdeal.main_arg1).view.loc (c : Thread KernelIdeal.nD KernelIdeal.τ)))
  (X4 : Buf (Elt Ideal) ((Memref.whole KernelIdeal.main_arg4).view.loc (c : Thread KernelIdeal.nD KernelIdeal.τ)))
  (X5 : Buf (Elt Ideal) ((Memref.whole KernelIdeal.main_arg5).view.loc (c : Thread KernelIdeal.nD KernelIdeal.τ)))
  (X6 : Buf (Elt Ideal) ((Memref.whole KernelIdeal.main_arg6).view.loc (c : Thread KernelIdeal.nD KernelIdeal.τ)))
variable (x : Vec Ideal ReferenceIdeal.S256x2560 .fp8e4m3) (s : Vec Ideal ReferenceIdeal.S256x1 .f32) (w : Vec Ideal ReferenceIdeal.S2560x10240 .bf16) (q : Vec Ideal ReferenceIdeal.S1280x10240 .i8) (z : Vec Ideal ReferenceIdeal.S20x10240 .bf16) (a : Vec Ideal ReferenceIdeal.S2560x48 .bf16) (b : Vec Ideal ReferenceIdeal.S48x10240 .bf16)

/-- The kernel's projection is the reference's where their operands agree. -/
theorem mP_eq (hx : K.kX (K.i0 c X0) = R.fX x) (hs : K.sK (K.i1 c X1) = R.fs s) (ha : ∀ d r, K.i5 c X5 (ix2 d r) = a (ix2 d r)) :
    K.mP c X0 X1 X5 = R.fP x s a := by
  unfold K.mP K.kP
  rw [hx, hs]
  exact congrArg (pM (R.fX x) (R.fs s)) (funext fun d => funext fun r => ha d r)

/-- So is its residual. -/
theorem mR_eq (hx : K.kX (K.i0 c X0) = R.fX x) (hs : K.sK (K.i1 c X1) = R.fs s) (hw : K.kW c XW = fun k n => w (ix2 k n)) (hq : K.kC c XC = fun k n => q (ix2 k n))
    (hz : ∀ g n, K.i4 c X4 (ix2 g n) = z (ix2 g n)) (ha : ∀ d r, K.i5 c X5 (ix2 d r) = a (ix2 d r)) (hb : K.mB c X6 = R.fB b) :
    K.mR c XW XC X0 X1 X4 X5 X6 = R.fR x s w q z a b := by
  have hE : K.mE c XW XC X4 = R.fE w q z := by
    unfold K.mE
    rw [hw, hq]
    exact congrArg (errM _ _) (funext fun g => funext fun n => hz g n)
  unfold K.mR
  rw [mP_eq c X0 X1 X5 x s a hx hs ha, hx, hs, hE, hb]

end Match

section Args
variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (c : Dev KernelIdeal.nD)

/-- The kernel's activations as one matrix. -/
theorem V_v0 : KernelIdeal.Gen.V (F := Ideal) m c KernelIdeal.main_v0 = shapeCast KernelIdeal.S256x2560 (m ((c : Thread KernelIdeal.nD KernelIdeal.τ).loc KernelIdeal.main_arg0)) KernelIdeal.Gen.shapeCasts_S2x128x2560_S256x2560 := by
  show StableHlo.after KernelIdeal.Gen.hostOps0 _ (Proc.devRef .tc KernelIdeal.main_v0) = _
  after_results
  rfl

/-- Both programs' matrices of activations are one. -/
theorem x_eq (h0 : m' ((c.tc : Thread ReferenceIdeal.nD ReferenceIdeal.τ).loc ReferenceIdeal.main_arg0) = m ((c.tc : Thread KernelIdeal.nD KernelIdeal.τ).loc KernelIdeal.main_arg0)) :
    K.kX (K.i0 c (KernelIdeal.Gen.V (F := Ideal) m c KernelIdeal.main_v0)) = R.fX (ReferenceIdeal.Gen.V (F := Ideal) m' c ReferenceIdeal.main_v0) := by
  rw [V_v0, R.V_v0, h0]
  rfl

/-- Both programs' row scales are one. -/
theorem s_eq (h1 : m' ((c.tc : Thread ReferenceIdeal.nD ReferenceIdeal.τ).loc ReferenceIdeal.main_arg1) = m ((c.tc : Thread KernelIdeal.nD KernelIdeal.τ).loc KernelIdeal.main_arg1)) :
    K.sK (K.i1 c (KernelIdeal.Gen.V (F := Ideal) m c KernelIdeal.main_arg1)) = R.fs (ReferenceIdeal.Gen.V (F := Ideal) m' c ReferenceIdeal.main_v1) := by
  funext t
  unfold R.fs
  rw [R.V_v1, h1, KernelIdeal.Gen.V_main_arg1]
  rfl

/-- The two runs' arguments agree at a device. -/
abbrev Same : Prop :=
  m' ((c.tc : Thread ReferenceIdeal.nD ReferenceIdeal.τ).loc ReferenceIdeal.main_arg0) = m ((c.tc : Thread KernelIdeal.nD KernelIdeal.τ).loc KernelIdeal.main_arg0)
  ∧ m' ((c.tc : Thread ReferenceIdeal.nD ReferenceIdeal.τ).loc ReferenceIdeal.main_arg1) = m ((c.tc : Thread KernelIdeal.nD KernelIdeal.τ).loc KernelIdeal.main_arg1)
  ∧ m' ((c.tc : Thread ReferenceIdeal.nD ReferenceIdeal.τ).loc ReferenceIdeal.main_arg2) = m ((c.tc : Thread KernelIdeal.nD KernelIdeal.τ).loc KernelIdeal.main_arg2)
  ∧ m' ((c.tc : Thread ReferenceIdeal.nD ReferenceIdeal.τ).loc ReferenceIdeal.main_arg3) = m ((c.tc : Thread KernelIdeal.nD KernelIdeal.τ).loc KernelIdeal.main_arg3)
  ∧ m' ((c.tc : Thread ReferenceIdeal.nD ReferenceIdeal.τ).loc ReferenceIdeal.main_arg4) = m ((c.tc : Thread KernelIdeal.nD KernelIdeal.τ).loc KernelIdeal.main_arg4)
  ∧ m' ((c.tc : Thread ReferenceIdeal.nD ReferenceIdeal.τ).loc ReferenceIdeal.main_arg5) = m ((c.tc : Thread KernelIdeal.nD KernelIdeal.τ).loc KernelIdeal.main_arg5)
  ∧ m' ((c.tc : Thread ReferenceIdeal.nD ReferenceIdeal.τ).loc ReferenceIdeal.main_arg6) = m ((c.tc : Thread KernelIdeal.nD KernelIdeal.τ).loc KernelIdeal.main_arg6)

/-- Argument 2 is one array in both. -/
theorem arg2_eq (h2 : m' ((c.tc : Thread ReferenceIdeal.nD ReferenceIdeal.τ).loc ReferenceIdeal.main_arg2) = m ((c.tc : Thread KernelIdeal.nD KernelIdeal.τ).loc KernelIdeal.main_arg2)) : (Memref.whole KernelIdeal.main_arg2).view.read (Elt Ideal) (KernelIdeal.Gen.V (F := Ideal) m c KernelIdeal.main_arg2) = (ReferenceIdeal.Gen.V (F := Ideal) m' c ReferenceIdeal.main_arg2) := by
  rw [KernelIdeal.Gen.V_main_arg2, ReferenceIdeal.Gen.V_main_arg2, h2]
  rfl
/-- Argument 3 is one array in both. -/
theorem arg3_eq (h3 : m' ((c.tc : Thread ReferenceIdeal.nD ReferenceIdeal.τ).loc ReferenceIdeal.main_arg3) = m ((c.tc : Thread KernelIdeal.nD KernelIdeal.τ).loc KernelIdeal.main_arg3)) : (Memref.whole KernelIdeal.main_arg3).view.read (Elt Ideal) (KernelIdeal.Gen.V (F := Ideal) m c KernelIdeal.main_arg3) = (ReferenceIdeal.Gen.V (F := Ideal) m' c ReferenceIdeal.main_arg3) := by
  rw [KernelIdeal.Gen.V_main_arg3, ReferenceIdeal.Gen.V_main_arg3, h3]
  rfl
/-- Argument 4 is one array in both. -/
theorem arg4_eq (h4 : m' ((c.tc : Thread ReferenceIdeal.nD ReferenceIdeal.τ).loc ReferenceIdeal.main_arg4) = m ((c.tc : Thread KernelIdeal.nD KernelIdeal.τ).loc KernelIdeal.main_arg4)) : (Memref.whole KernelIdeal.main_arg4).view.read (Elt Ideal) (KernelIdeal.Gen.V (F := Ideal) m c KernelIdeal.main_arg4) = (ReferenceIdeal.Gen.V (F := Ideal) m' c ReferenceIdeal.main_arg4) := by
  rw [KernelIdeal.Gen.V_main_arg4, ReferenceIdeal.Gen.V_main_arg4, h4]
  rfl
/-- Argument 5 is one array in both. -/
theorem arg5_eq (h5 : m' ((c.tc : Thread ReferenceIdeal.nD ReferenceIdeal.τ).loc ReferenceIdeal.main_arg5) = m ((c.tc : Thread KernelIdeal.nD KernelIdeal.τ).loc KernelIdeal.main_arg5)) : (Memref.whole KernelIdeal.main_arg5).view.read (Elt Ideal) (KernelIdeal.Gen.V (F := Ideal) m c KernelIdeal.main_arg5) = (ReferenceIdeal.Gen.V (F := Ideal) m' c ReferenceIdeal.main_arg5) := by
  rw [KernelIdeal.Gen.V_main_arg5, ReferenceIdeal.Gen.V_main_arg5, h5]
  rfl
/-- Argument 6 is one array in both. -/
theorem arg6_eq (h6 : m' ((c.tc : Thread ReferenceIdeal.nD ReferenceIdeal.τ).loc ReferenceIdeal.main_arg6) = m ((c.tc : Thread KernelIdeal.nD KernelIdeal.τ).loc KernelIdeal.main_arg6)) : (Memref.whole KernelIdeal.main_arg6).view.read (Elt Ideal) (KernelIdeal.Gen.V (F := Ideal) m c KernelIdeal.main_arg6) = (ReferenceIdeal.Gen.V (F := Ideal) m' c ReferenceIdeal.main_arg6) := by
  rw [KernelIdeal.Gen.V_main_arg6, ReferenceIdeal.Gen.V_main_arg6, h6]
  rfl

variable (h : Same m m' c)
include h

/-- The tile `b` is one in both, -/
theorem b_eq : K.mB c (KernelIdeal.Gen.V (F := Ideal) m c KernelIdeal.main_arg6) = R.fB (ReferenceIdeal.Gen.V (F := Ideal) m' c ReferenceIdeal.main_arg6) := by
  funext r n
  exact congrFun (arg6_eq m m' c h.2.2.2.2.2.2) (ix2 r n)

/-- so is the projection, -/
theorem p_eq : K.mP c (KernelIdeal.Gen.V (F := Ideal) m c KernelIdeal.main_v0) (KernelIdeal.Gen.V (F := Ideal) m c KernelIdeal.main_arg1) (KernelIdeal.Gen.V (F := Ideal) m c KernelIdeal.main_arg5) = R.rP m' c :=
  mP_eq c _ _ _ _ _ _ (x_eq m m' c h.1) (s_eq m m' c h.2.1) (fun d r => congrFun (arg5_eq m m' c h.2.2.2.2.2.1) (ix2 d r))

/-- and the residual. -/
theorem r_eq : K.mR c (KernelIdeal.Gen.V (F := Ideal) m c KernelIdeal.main_arg2) (KernelIdeal.Gen.V (F := Ideal) m c KernelIdeal.main_arg3) (KernelIdeal.Gen.V (F := Ideal) m c KernelIdeal.main_v0) (KernelIdeal.Gen.V (F := Ideal) m c KernelIdeal.main_arg1) (KernelIdeal.Gen.V (F := Ideal) m c KernelIdeal.main_arg4) (KernelIdeal.Gen.V (F := Ideal) m c KernelIdeal.main_arg5) (KernelIdeal.Gen.V (F := Ideal) m c KernelIdeal.main_arg6) = R.rR m' c :=
  mR_eq c _ _ _ _ _ _ _ _ _ _ _ _ _ _ (x_eq m m' c h.1) (s_eq m m' c h.2.1)
    (funext fun k => funext fun n => congrFun (arg2_eq m m' c h.2.2.1) (ix2 k n))
    (funext fun k => funext fun n => congrFun (arg3_eq m m' c h.2.2.2.1) (ix2 k n))
    (fun g n => congrFun (arg4_eq m m' c h.2.2.2.2.1) (ix2 g n))
    (fun d r => congrFun (arg5_eq m m' c h.2.2.2.2.2.1) (ix2 d r)) (b_eq m m' c h)

/-- The losses are equal. -/
theorem loss_same (i : Fin 2) (j : Fin 128) : Pipeline.afterTail₀ ReferenceIdeal.cfgs (ReferenceIdeal.Gen.dats (F := Ideal) m') 0 (ReferenceIdeal.Gen.V0 m') [ReferenceIdeal.Gen.hostOps1] c ReferenceIdeal.main_v3 (ix2 i j)
    = K.outF0 (F := Ideal) m c (ix2 i j) := by
  unfold K.outF0
  rw [rep0 c, R.v3_at, R.loss_at, K.outL_apply, r_eq m m' c h]

/-- The gradients are equal. -/
theorem g_same (t : Fin 256) (r : Fin 48) : (ReferenceIdeal.Gen.dats (F := Ideal) m' 0 c).arrAt 8 ReferenceIdeal.cfg0.N (ix2 t r)
    = K.outF1 (F := Ideal) m c (ix2 t r) := by
  unfold K.outF1
  rw [rep1 c, R.g_at, K.outG_apply, r_eq m m' c h, b_eq m m' c h]

/-- The derivatives by `a` are equal. -/
theorem da_same (d : Fin 2560) (r : Fin 48) : (ReferenceIdeal.Gen.dats (F := Ideal) m' 0 c).arrAt 9 ReferenceIdeal.cfg0.N (ix2 d r)
    = K.outF2 (F := Ideal) m c (ix2 d r) := by
  unfold K.outF2
  rw [rep2 c, R.da_at, K.outA_apply, r_eq m m' c h, b_eq m m' c h, x_eq m m' c h.1, s_eq m m' c h.2.1]

/-- The derivatives by `b` are equal. -/
theorem db_same (r : Fin 48) (n : Fin 10240) : (ReferenceIdeal.Gen.dats (F := Ideal) m' 0 c).arrAt 10 ReferenceIdeal.cfg0.N (ix2 r n)
    = K.outF3 (F := Ideal) m c (ix2 r n) := by
  unfold K.outF3
  rw [R.db_at, K.dFull_apply, r_eq m m' c h, p_eq m m' c h]

end Args

/-- The kernel's results are the reference's. -/
theorem algebraic : Cert.algebraic_KernelIdeal_ReferenceIdeal (hKernelIdeal := Cert.KernelIdeal.Gen.facts) (hReferenceIdeal := Cert.ReferenceIdeal.Gen.facts) := by
  intro m g m' g' _ hm
  refine ⟨K.outF0 m, K.outF1 m, K.outF2 m, K.outF3 m, ?_, ?_⟩
  · refine (θ_run _ _ _).mono (fun r h c => ?_) (K.run_values (F := Ideal) m g)
    obtain ⟨a0, a1, a2, a3, a4, a5, a6, e0, e1, e2, e3⟩ := h.1 c
    exact ⟨e0, e1, e2, e3, a0, a1, a2, a3, a4, a5, a6⟩
  · refine (θ_run _ _ _).mono (fun r h c => ?_) (θ_run_and (ReferenceIdeal.Gen.run_main (F := Ideal) m' g') (ReferenceIdeal.Gen.frame m' g'))
    obtain ⟨hp, ha⟩ := h
    refine ⟨?_, ?_, ?_, ?_, ha.1 c⟩
    · exact ((hp c).2 ReferenceIdeal.main_v3 (Pipeline.mem_restRefs_of ReferenceIdeal.main_v3 (by decide) (by decide))).trans (ext2 _ _ (loss_same m m' c (hm c)))
    · exact ((hp c).1 8).trans (ext2 _ _ (g_same m m' c (hm c)))
    · exact ((hp c).1 9).trans (ext2 _ _ (da_same m m' c (hm c)))
    · exact ((hp c).1 10).trans (ext2 _ _ (db_same m m' c (hm c)))

end Cert.Proof
-- ==== Proof.lean ====
/-
  The certificate. Each claim is cited from the module that proves it.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frames
public import proofs.«01_k».proof.Proof.Algebraic

@[expose] public section

noncomputable section

namespace Cert.Proof

/-- The claims: the three programs end with their arguments unchanged and their semaphores at zero, the ideal kernel is the
    kernel, and over exact values the kernel's four results are the reference's. -/
theorem claim : Cert.Claim := ⟨Cert.Kernel.Gen.facts, Cert.KernelIdeal.Gen.facts, Cert.ReferenceIdeal.Gen.facts,
  K.quiescent_bits, K.quiescent_ideal, fun m ρ _ => Cert.ReferenceIdeal.Gen.frame m ρ, trivial, algebraic⟩

end Cert.Proof

end
